-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S16x2048x64 : Shape := ⟨3, ![16, 2048, 64]⟩
abbrev S64 : Shape := ⟨1, ![64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : IVec S16x2048x64 32) (main_arg1 : FVec F S64 .f32) : IVec S_ 1 :=
  let main_c : IVec S_ 32 := constantI S_ 32 0#32
  let main_v0 : IVec S16x2048x64 32 := broadcastInDim S16x2048x64 ![] bcast_S_S16x2048x64 main_c
  let main_v1 : IVec S16x2048x64 1 := cmpi .sge main_arg0 main_v0
  let main_c_0 : IVec S_ 32 := constantI S_ 32 25#32
  let main_v2 : IVec S16x2048x64 32 := broadcastInDim S16x2048x64 ![] bcast_S_S16x2048x64 main_c_0
  let main_v3 : IVec S16x2048x64 1 := cmpi .slt main_arg0 main_v2
  let main_v4 : IVec S16x2048x64 1 := andi main_v1 main_v3
  let main_c_1 : IVec S_ 1 := constantI S_ 1 1#1
  let main_v5 : IVec S_ 1 := (fun x v => Host.reduce IntOp.andi x v reducesTo_S16x2048x64_S_d0_1_2 h_S_) main_v4 main_c_1
  main_v5
-- ==== Pre_in_range_finite.lean ====
abbrev S16x2048x64 : Shape := ⟨3, ![16, 2048, 64]⟩
abbrev S64 : Shape := ⟨1, ![64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : IVec S16x2048x64 32) (main_arg1 : FVec F S64 .f32) : IVec S_ 1 :=
  let main_c : IVec S_ 32 := constantI S_ 32 0#32
  let main_v0 : IVec S16x2048x64 32 := broadcastInDim S16x2048x64 ![] bcast_S_S16x2048x64 main_c
  let main_v1 : IVec S16x2048x64 1 := cmpi .sge main_arg0 main_v0
  let main_c_0 : IVec S_ 32 := constantI S_ 32 25#32
  let main_v2 : IVec S16x2048x64 32 := broadcastInDim S16x2048x64 ![] bcast_S_S16x2048x64 main_c_0
  let main_v3 : IVec S16x2048x64 1 := cmpi .slt main_arg0 main_v2
  let main_v4 : IVec S16x2048x64 1 := andi main_v1 main_v3
  let main_c_1 : IVec S_ 1 := constantI S_ 1 1#1
  let main_v5 : IVec S_ 1 := (fun x v => Host.reduce IntOp.andi x v reducesTo_S16x2048x64_S_d0_1_2 h_S_) main_v4 main_c_1
  let main_cst : FVec F S_ .f32 := constant S_ .f32 0xFF800000#32
  let main_v6 : FVec F S64 .f32 := broadcastInDim S64 ![] bcast_S_S64 main_cst
  let main_v7 : IVec S64 1 := cmpf .ogt main_arg1 main_v6
  let main_cst_2 : FVec F S_ .f32 := constant S_ .f32 0x7F800000#32
  let main_v8 : FVec F S64 .f32 := broadcastInDim S64 ![] bcast_S_S64 main_cst_2
  let main_v9 : IVec S64 1 := cmpf .olt main_arg1 main_v8
  let main_v10 : IVec S64 1 := andi main_v7 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v5 main_v11
  main_v12
-- ==== Kernel.lean ====
abbrev S16x2048x64 : Shape := ⟨3, ![16, 2048, 64]⟩
abbrev S64 : Shape := ⟨1, ![64]⟩
abbrev S2097152 : Shape := ⟨1, ![2097152]⟩
abbrev S819200 : Shape := ⟨1, ![819200]⟩
abbrev S65536 : Shape := ⟨1, ![65536]⟩
abbrev S25600 : Shape := ⟨1, ![25600]⟩
abbrev S1024 : Shape := ⟨1, ![1024]⟩
abbrev S16 : Shape := ⟨1, ![16]⟩
abbrev S_ : Shape := ⟨0, ![]⟩
abbrev S16x2048x25 : Shape := ⟨3, ![16, 2048, 25]⟩

abbrev nBuf : Table → Nat
  | .hbm => 5
  | .local .scVector .vmem => 5
  | _ => 0

abbrev bufTy : (tb : Table) → Fin (nBuf tb) → BufTy
  | .hbm, ⟨0, _⟩ => ⟨S16x2048x64, .i32⟩
  | .hbm, ⟨1, _⟩ => ⟨S64, .f32⟩
  | .hbm, ⟨2, _⟩ => ⟨S2097152, .i32⟩
  | .hbm, ⟨3, _⟩ => ⟨S819200, .f32⟩
  | .hbm, ⟨4, _⟩ => ⟨S16x2048x25, .f32⟩
  | .local .scVector .vmem, ⟨0, _⟩ => ⟨S65536, .i32⟩
  | .local .scVector .vmem, ⟨1, _⟩ => ⟨S25600, .f32⟩
  | .local .scVector .vmem, ⟨2, _⟩ => ⟨S64, .f32⟩
  | .local .scVector .vmem, ⟨3, _⟩ => ⟨S1024, .f32⟩
  | .local .scVector .vmem, ⟨4, _⟩ => ⟨S16, .f32⟩
  | _, _ => ⟨S16x2048x64, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c64_i32 : BitVec 32 := 64#32
  let v3 : BitVec 32 := Scalar.muli v2 c64_i32
  ![v3.toNat]

def k0_chk1 (v16 : IVec S16 32) : Prop :=
  (∀ a x, ((![v16] : Fin 1 → IVec S16 32) a x).toNat < S16.size a)
theorem k0_idx1_inb : ∀ (v16 : IVec S16 32) (k0_hw1 : k0_chk1 v16), ∀ a x, ((![v16] : Fin 1 → IVec S16 32) a x).toNat < S16.size a := fun v16 k0_hw1 => k0_hw1

def k0_chk2 (v21 : IVec S16 32) : Prop :=
  (∀ a x, ((![v21] : Fin 1 → IVec S16 32) a x).toNat < S16.size a)
theorem k0_idx2_inb : ∀ (v21 : IVec S16 32) (k0_hw2 : k0_chk2 v21), ∀ a x, ((![v21] : Fin 1 → IVec S16 32) a x).toNat < S16.size a := fun v21 k0_hw2 => k0_hw2

def k0_chk3 (v26 : IVec S16 32) : Prop :=
  (∀ a x, ((![v26] : Fin 1 → IVec S16 32) a x).toNat < S16.size a)
theorem k0_idx3_inb : ∀ (v26 : IVec S16 32) (k0_hw3 : k0_chk3 v26), ∀ a x, ((![v26] : Fin 1 → IVec S16 32) a x).toNat < S16.size a := fun v26 k0_hw3 => k0_hw3

def k0_chk4 (v31 : IVec S16 32) : Prop :=
  (∀ a x, ((![v31] : Fin 1 → IVec S16 32) a x).toNat < S16.size a)
theorem k0_idx4_inb : ∀ (v31 : IVec S16 32) (k0_hw4 : k0_chk4 v31), ∀ a x, ((![v31] : Fin 1 → IVec S16 32) a x).toNat < S16.size a := fun v31 k0_hw4 => k0_hw4

def k0_chk5 (v47 : IVec S16 32) : Prop :=
  (∀ a x, ((![v47] : Fin 1 → IVec S16 32) a x).toNat < S16.size a)
theorem k0_idx5_inb : ∀ (v47 : IVec S16 32) (k0_hw5 : k0_chk5 v47), ∀ a x, ((![v47] : Fin 1 → IVec S16 32) a x).toNat < S16.size a := fun v47 k0_hw5 => k0_hw5

def k0_chk6 (v52 : IVec S16 32) : Prop :=
  (∀ a x, ((![v52] : Fin 1 → IVec S16 32) a x).toNat < S16.size a)
theorem k0_idx6_inb : ∀ (v52 : IVec S16 32) (k0_hw6 : k0_chk6 v52), ∀ a x, ((![v52] : Fin 1 → IVec S16 32) a x).toNat < S16.size a := fun v52 k0_hw6 => k0_hw6

def k0_chk7 (v57 : IVec S16 32) : Prop :=
  (∀ a x, ((![v57] : Fin 1 → IVec S16 32) a x).toNat < S16.size a)
theorem k0_idx7_inb : ∀ (v57 : IVec S16 32) (k0_hw7 : k0_chk7 v57), ∀ a x, ((![v57] : Fin 1 → IVec S16 32) a x).toNat < S16.size a := fun v57 k0_hw7 => k0_hw7

def k0_chk8 (v62 : IVec S16 32) : Prop :=
  (∀ a x, ((![v62] : Fin 1 → IVec S16 32) a x).toNat < S16.size a)
theorem k0_idx8_inb : ∀ (v62 : IVec S16 32) (k0_hw8 : k0_chk8 v62), ∀ a x, ((![v62] : Fin 1 → IVec S16 32) a x).toNat < S16.size a := fun v62 k0_hw8 => k0_hw8

def k0_chk9 (v75 : IVec S16 32) : Prop :=
  (∀ a x, ((![v75] : Fin 1 → IVec S16 32) a x).toNat < S64.size a)
theorem k0_idx9_inb : ∀ (v75 : IVec S16 32) (k0_hw9 : k0_chk9 v75), ∀ a x, ((![v75] : Fin 1 → IVec S16 32) a x).toNat < S64.size a := fun v75 k0_hw9 => k0_hw9

def k0_chk10 (v78 : IVec S16 32) : Prop :=
  (∀ a x, ((![v78] : Fin 1 → IVec S16 32) a x).toNat < S64.size a)
theorem k0_idx10_inb : ∀ (v78 : IVec S16 32) (k0_hw10 : k0_chk10 v78), ∀ a x, ((![v78] : Fin 1 → IVec S16 32) a x).toNat < S64.size a := fun v78 k0_hw10 => k0_hw10

def k0_chk11 (v81 : IVec S16 32) : Prop :=
  (∀ a x, ((![v81] : Fin 1 → IVec S16 32) a x).toNat < S64.size a)
theorem k0_idx11_inb : ∀ (v81 : IVec S16 32) (k0_hw11 : k0_chk11 v81), ∀ a x, ((![v81] : Fin 1 → IVec S16 32) a x).toNat < S64.size a := fun v81 k0_hw11 => k0_hw11

def k0_chk12 (v84 : IVec S16 32) : Prop :=
  (∀ a x, ((![v84] : Fin 1 → IVec S16 32) a x).toNat < S64.size a)
theorem k0_idx12_inb : ∀ (v84 : IVec S16 32) (k0_hw12 : k0_chk12 v84), ∀ a x, ((![v84] : Fin 1 → IVec S16 32) a x).toNat < S64.size a := fun v84 k0_hw12 => k0_hw12

def k0_chk13 (v87 : IVec S16 32) : Prop :=
  (∀ a x, ((![v87] : Fin 1 → IVec S16 32) a x).toNat < S64.size a)
theorem k0_idx13_inb : ∀ (v87 : IVec S16 32) (k0_hw13 : k0_chk13 v87), ∀ a x, ((![v87] : Fin 1 → IVec S16 32) a x).toNat < S64.size a := fun v87 k0_hw13 => k0_hw13

def k0_chk14 (v90 : IVec S16 32) : Prop :=
  (∀ a x, ((![v90] : Fin 1 → IVec S16 32) a x).toNat < S64.size a)
theorem k0_idx14_inb : ∀ (v90 : IVec S16 32) (k0_hw14 : k0_chk14 v90), ∀ a x, ((![v90] : Fin 1 → IVec S16 32) a x).toNat < S64.size a := fun v90 k0_hw14 => k0_hw14

def k0_chk15 (v93 : IVec S16 32) : Prop :=
  (∀ a x, ((![v93] : Fin 1 → IVec S16 32) a x).toNat < S64.size a)
theorem k0_idx15_inb : ∀ (v93 : IVec S16 32) (k0_hw15 : k0_chk15 v93), ∀ a x, ((![v93] : Fin 1 → IVec S16 32) a x).toNat < S64.size a := fun v93 k0_hw15 => k0_hw15

def k0_chk16 (v96 : IVec S16 32) : Prop :=
  (∀ a x, ((![v96] : Fin 1 → IVec S16 32) a x).toNat < S64.size a)
theorem k0_idx16_inb : ∀ (v96 : IVec S16 32) (k0_hw16 : k0_chk16 v96), ∀ a x, ((![v96] : Fin 1 → IVec S16 32) a x).toNat < S64.size a := fun v96 k0_hw16 => k0_hw16

def k0_chk17 (v99 : IVec S16 32) : Prop :=
  (∀ a x, ((![v99] : Fin 1 → IVec S16 32) a x).toNat < S64.size a)
theorem k0_idx17_inb : ∀ (v99 : IVec S16 32) (k0_hw17 : k0_chk17 v99), ∀ a x, ((![v99] : Fin 1 → IVec S16 32) a x).toNat < S64.size a := fun v99 k0_hw17 => k0_hw17

def k0_chk18 (v102 : IVec S16 32) : Prop :=
  (∀ a x, ((![v102] : Fin 1 → IVec S16 32) a x).toNat < S64.size a)
theorem k0_idx18_inb : ∀ (v102 : IVec S16 32) (k0_hw18 : k0_chk18 v102), ∀ a x, ((![v102] : Fin 1 → IVec S16 32) a x).toNat < S64.size a := fun v102 k0_hw18 => k0_hw18

def k0_chk19 (v105 : IVec S16 32) : Prop :=
  (∀ a x, ((![v105] : Fin 1 → IVec S16 32) a x).toNat < S64.size a)
theorem k0_idx19_inb : ∀ (v105 : IVec S16 32) (k0_hw19 : k0_chk19 v105), ∀ a x, ((![v105] : Fin 1 → IVec S16 32) a x).toNat < S64.size a := fun v105 k0_hw19 => k0_hw19

def k0_chk20 (v108 : IVec S16 32) : Prop :=
  (∀ a x, ((![v108] : Fin 1 → IVec S16 32) a x).toNat < S64.size a)
theorem k0_idx20_inb : ∀ (v108 : IVec S16 32) (k0_hw20 : k0_chk20 v108), ∀ a x, ((![v108] : Fin 1 → IVec S16 32) a x).toNat < S64.size a := fun v108 k0_hw20 => k0_hw20

def k0_chk21 (v111 : IVec S16 32) : Prop :=
  (∀ a x, ((![v111] : Fin 1 → IVec S16 32) a x).toNat < S64.size a)
theorem k0_idx21_inb : ∀ (v111 : IVec S16 32) (k0_hw21 : k0_chk21 v111), ∀ a x, ((![v111] : Fin 1 → IVec S16 32) a x).toNat < S64.size a := fun v111 k0_hw21 => k0_hw21

def k0_chk22 (v114 : IVec S16 32) : Prop :=
  (∀ a x, ((![v114] : Fin 1 → IVec S16 32) a x).toNat < S64.size a)
theorem k0_idx22_inb : ∀ (v114 : IVec S16 32) (k0_hw22 : k0_chk22 v114), ∀ a x, ((![v114] : Fin 1 → IVec S16 32) a x).toNat < S64.size a := fun v114 k0_hw22 => k0_hw22

def k0_chk23 (v117 : IVec S16 32) : Prop :=
  (∀ a x, ((![v117] : Fin 1 → IVec S16 32) a x).toNat < S64.size a)
theorem k0_idx23_inb : ∀ (v117 : IVec S16 32) (k0_hw23 : k0_chk23 v117), ∀ a x, ((![v117] : Fin 1 → IVec S16 32) a x).toNat < S64.size a := fun v117 k0_hw23 => k0_hw23

def k0_chk24 (v120 : IVec S16 32) : Prop :=
  (∀ a x, ((![v120] : Fin 1 → IVec S16 32) a x).toNat < S64.size a)
theorem k0_idx24_inb : ∀ (v120 : IVec S16 32) (k0_hw24 : k0_chk24 v120), ∀ a x, ((![v120] : Fin 1 → IVec S16 32) a x).toNat < S64.size a := fun v120 k0_hw24 => k0_hw24

def k0_chk25 (v123 : IVec S16 32) : Prop :=
  (∀ a x, ((![v123] : Fin 1 → IVec S16 32) a x).toNat < S64.size a)
theorem k0_idx25_inb : ∀ (v123 : IVec S16 32) (k0_hw25 : k0_chk25 v123), ∀ a x, ((![v123] : Fin 1 → IVec S16 32) a x).toNat < S64.size a := fun v123 k0_hw25 => k0_hw25

def k0_chk26 (v126 : IVec S16 32) : Prop :=
  (∀ a x, ((![v126] : Fin 1 → IVec S16 32) a x).toNat < S64.size a)
theorem k0_idx26_inb : ∀ (v126 : IVec S16 32) (k0_hw26 : k0_chk26 v126), ∀ a x, ((![v126] : Fin 1 → IVec S16 32) a x).toNat < S64.size a := fun v126 k0_hw26 => k0_hw26

def k0_chk27 (v129 : IVec S16 32) : Prop :=
  (∀ a x, ((![v129] : Fin 1 → IVec S16 32) a x).toNat < S64.size a)
theorem k0_idx27_inb : ∀ (v129 : IVec S16 32) (k0_hw27 : k0_chk27 v129), ∀ a x, ((![v129] : Fin 1 → IVec S16 32) a x).toNat < S64.size a := fun v129 k0_hw27 => k0_hw27

def k0_chk28 (v132 : IVec S16 32) : Prop :=
  (∀ a x, ((![v132] : Fin 1 → IVec S16 32) a x).toNat < S64.size a)
theorem k0_idx28_inb : ∀ (v132 : IVec S16 32) (k0_hw28 : k0_chk28 v132), ∀ a x, ((![v132] : Fin 1 → IVec S16 32) a x).toNat < S64.size a := fun v132 k0_hw28 => k0_hw28

def k0_chk29 (v135 : IVec S16 32) : Prop :=
  (∀ a x, ((![v135] : Fin 1 → IVec S16 32) a x).toNat < S64.size a)
theorem k0_idx29_inb : ∀ (v135 : IVec S16 32) (k0_hw29 : k0_chk29 v135), ∀ a x, ((![v135] : Fin 1 → IVec S16 32) a x).toNat < S64.size a := fun v135 k0_hw29 => k0_hw29

def k0_chk30 (v138 : IVec S16 32) : Prop :=
  (∀ a x, ((![v138] : Fin 1 → IVec S16 32) a x).toNat < S64.size a)
theorem k0_idx30_inb : ∀ (v138 : IVec S16 32) (k0_hw30 : k0_chk30 v138), ∀ a x, ((![v138] : Fin 1 → IVec S16 32) a x).toNat < S64.size a := fun v138 k0_hw30 => k0_hw30

def k0_chk31 (v141 : IVec S16 32) : Prop :=
  (∀ a x, ((![v141] : Fin 1 → IVec S16 32) a x).toNat < S64.size a)
theorem k0_idx31_inb : ∀ (v141 : IVec S16 32) (k0_hw31 : k0_chk31 v141), ∀ a x, ((![v141] : Fin 1 → IVec S16 32) a x).toNat < S64.size a := fun v141 k0_hw31 => k0_hw31

def k0_chk32 (v144 : IVec S16 32) : Prop :=
  (∀ a x, ((![v144] : Fin 1 → IVec S16 32) a x).toNat < S64.size a)
theorem k0_idx32_inb : ∀ (v144 : IVec S16 32) (k0_hw32 : k0_chk32 v144), ∀ a x, ((![v144] : Fin 1 → IVec S16 32) a x).toNat < S64.size a := fun v144 k0_hw32 => k0_hw32

def k0_chk33 (v147 : IVec S16 32) : Prop :=
  (∀ a x, ((![v147] : Fin 1 → IVec S16 32) a x).toNat < S64.size a)
theorem k0_idx33_inb : ∀ (v147 : IVec S16 32) (k0_hw33 : k0_chk33 v147), ∀ a x, ((![v147] : Fin 1 → IVec S16 32) a x).toNat < S64.size a := fun v147 k0_hw33 => k0_hw33

def k0_chk34 (v150 : IVec S16 32) : Prop :=
  (∀ a x, ((![v150] : Fin 1 → IVec S16 32) a x).toNat < S64.size a)
theorem k0_idx34_inb : ∀ (v150 : IVec S16 32) (k0_hw34 : k0_chk34 v150), ∀ a x, ((![v150] : Fin 1 → IVec S16 32) a x).toNat < S64.size a := fun v150 k0_hw34 => k0_hw34

def k0_chk35 (v153 : IVec S16 32) : Prop :=
  (∀ a x, ((![v153] : Fin 1 → IVec S16 32) a x).toNat < S64.size a)
theorem k0_idx35_inb : ∀ (v153 : IVec S16 32) (k0_hw35 : k0_chk35 v153), ∀ a x, ((![v153] : Fin 1 → IVec S16 32) a x).toNat < S64.size a := fun v153 k0_hw35 => k0_hw35

def k0_chk36 (v156 : IVec S16 32) : Prop :=
  (∀ a x, ((![v156] : Fin 1 → IVec S16 32) a x).toNat < S64.size a)
theorem k0_idx36_inb : ∀ (v156 : IVec S16 32) (k0_hw36 : k0_chk36 v156), ∀ a x, ((![v156] : Fin 1 → IVec S16 32) a x).toNat < S64.size a := fun v156 k0_hw36 => k0_hw36

def k0_chk37 (v159 : IVec S16 32) : Prop :=
  (∀ a x, ((![v159] : Fin 1 → IVec S16 32) a x).toNat < S64.size a)
theorem k0_idx37_inb : ∀ (v159 : IVec S16 32) (k0_hw37 : k0_chk37 v159), ∀ a x, ((![v159] : Fin 1 → IVec S16 32) a x).toNat < S64.size a := fun v159 k0_hw37 => k0_hw37

def k0_chk38 (v162 : IVec S16 32) : Prop :=
  (∀ a x, ((![v162] : Fin 1 → IVec S16 32) a x).toNat < S64.size a)
theorem k0_idx38_inb : ∀ (v162 : IVec S16 32) (k0_hw38 : k0_chk38 v162), ∀ a x, ((![v162] : Fin 1 → IVec S16 32) a x).toNat < S64.size a := fun v162 k0_hw38 => k0_hw38

def k0_chk39 (v165 : IVec S16 32) : Prop :=
  (∀ a x, ((![v165] : Fin 1 → IVec S16 32) a x).toNat < S64.size a)
theorem k0_idx39_inb : ∀ (v165 : IVec S16 32) (k0_hw39 : k0_chk39 v165), ∀ a x, ((![v165] : Fin 1 → IVec S16 32) a x).toNat < S64.size a := fun v165 k0_hw39 => k0_hw39

def k0_chk40 (v168 : IVec S16 32) : Prop :=
  (∀ a x, ((![v168] : Fin 1 → IVec S16 32) a x).toNat < S64.size a)
theorem k0_idx40_inb : ∀ (v168 : IVec S16 32) (k0_hw40 : k0_chk40 v168), ∀ a x, ((![v168] : Fin 1 → IVec S16 32) a x).toNat < S64.size a := fun v168 k0_hw40 => k0_hw40

def k0_chk41 (v171 : IVec S16 32) : Prop :=
  (∀ a x, ((![v171] : Fin 1 → IVec S16 32) a x).toNat < S64.size a)
theorem k0_idx41_inb : ∀ (v171 : IVec S16 32) (k0_hw41 : k0_chk41 v171), ∀ a x, ((![v171] : Fin 1 → IVec S16 32) a x).toNat < S64.size a := fun v171 k0_hw41 => k0_hw41

def k0_chk42 (v174 : IVec S16 32) : Prop :=
  (∀ a x, ((![v174] : Fin 1 → IVec S16 32) a x).toNat < S64.size a)
theorem k0_idx42_inb : ∀ (v174 : IVec S16 32) (k0_hw42 : k0_chk42 v174), ∀ a x, ((![v174] : Fin 1 → IVec S16 32) a x).toNat < S64.size a := fun v174 k0_hw42 => k0_hw42

def k0_chk43 (v177 : IVec S16 32) : Prop :=
  (∀ a x, ((![v177] : Fin 1 → IVec S16 32) a x).toNat < S64.size a)
theorem k0_idx43_inb : ∀ (v177 : IVec S16 32) (k0_hw43 : k0_chk43 v177), ∀ a x, ((![v177] : Fin 1 → IVec S16 32) a x).toNat < S64.size a := fun v177 k0_hw43 => k0_hw43

def k0_chk44 (v180 : IVec S16 32) : Prop :=
  (∀ a x, ((![v180] : Fin 1 → IVec S16 32) a x).toNat < S64.size a)
theorem k0_idx44_inb : ∀ (v180 : IVec S16 32) (k0_hw44 : k0_chk44 v180), ∀ a x, ((![v180] : Fin 1 → IVec S16 32) a x).toNat < S64.size a := fun v180 k0_hw44 => k0_hw44

def k0_chk45 (v183 : IVec S16 32) : Prop :=
  (∀ a x, ((![v183] : Fin 1 → IVec S16 32) a x).toNat < S64.size a)
theorem k0_idx45_inb : ∀ (v183 : IVec S16 32) (k0_hw45 : k0_chk45 v183), ∀ a x, ((![v183] : Fin 1 → IVec S16 32) a x).toNat < S64.size a := fun v183 k0_hw45 => k0_hw45

def k0_chk46 (v186 : IVec S16 32) : Prop :=
  (∀ a x, ((![v186] : Fin 1 → IVec S16 32) a x).toNat < S64.size a)
theorem k0_idx46_inb : ∀ (v186 : IVec S16 32) (k0_hw46 : k0_chk46 v186), ∀ a x, ((![v186] : Fin 1 → IVec S16 32) a x).toNat < S64.size a := fun v186 k0_hw46 => k0_hw46

def k0_chk47 (v189 : IVec S16 32) : Prop :=
  (∀ a x, ((![v189] : Fin 1 → IVec S16 32) a x).toNat < S64.size a)
theorem k0_idx47_inb : ∀ (v189 : IVec S16 32) (k0_hw47 : k0_chk47 v189), ∀ a x, ((![v189] : Fin 1 → IVec S16 32) a x).toNat < S64.size a := fun v189 k0_hw47 => k0_hw47

def k0_chk48 (v192 : IVec S16 32) : Prop :=
  (∀ a x, ((![v192] : Fin 1 → IVec S16 32) a x).toNat < S64.size a)
theorem k0_idx48_inb : ∀ (v192 : IVec S16 32) (k0_hw48 : k0_chk48 v192), ∀ a x, ((![v192] : Fin 1 → IVec S16 32) a x).toNat < S64.size a := fun v192 k0_hw48 => k0_hw48

def k0_chk49 (v195 : IVec S16 32) : Prop :=
  (∀ a x, ((![v195] : Fin 1 → IVec S16 32) a x).toNat < S64.size a)
theorem k0_idx49_inb : ∀ (v195 : IVec S16 32) (k0_hw49 : k0_chk49 v195), ∀ a x, ((![v195] : Fin 1 → IVec S16 32) a x).toNat < S64.size a := fun v195 k0_hw49 => k0_hw49

def k0_chk50 (v198 : IVec S16 32) : Prop :=
  (∀ a x, ((![v198] : Fin 1 → IVec S16 32) a x).toNat < S64.size a)
theorem k0_idx50_inb : ∀ (v198 : IVec S16 32) (k0_hw50 : k0_chk50 v198), ∀ a x, ((![v198] : Fin 1 → IVec S16 32) a x).toNat < S64.size a := fun v198 k0_hw50 => k0_hw50

def k0_chk51 (v201 : IVec S16 32) : Prop :=
  (∀ a x, ((![v201] : Fin 1 → IVec S16 32) a x).toNat < S64.size a)
theorem k0_idx51_inb : ∀ (v201 : IVec S16 32) (k0_hw51 : k0_chk51 v201), ∀ a x, ((![v201] : Fin 1 → IVec S16 32) a x).toNat < S64.size a := fun v201 k0_hw51 => k0_hw51

def k0_chk52 (v204 : IVec S16 32) : Prop :=
  (∀ a x, ((![v204] : Fin 1 → IVec S16 32) a x).toNat < S64.size a)
theorem k0_idx52_inb : ∀ (v204 : IVec S16 32) (k0_hw52 : k0_chk52 v204), ∀ a x, ((![v204] : Fin 1 → IVec S16 32) a x).toNat < S64.size a := fun v204 k0_hw52 => k0_hw52

def k0_chk53 (v207 : IVec S16 32) : Prop :=
  (∀ a x, ((![v207] : Fin 1 → IVec S16 32) a x).toNat < S64.size a)
theorem k0_idx53_inb : ∀ (v207 : IVec S16 32) (k0_hw53 : k0_chk53 v207), ∀ a x, ((![v207] : Fin 1 → IVec S16 32) a x).toNat < S64.size a := fun v207 k0_hw53 => k0_hw53

def k0_chk54 (v210 : IVec S16 32) : Prop :=
  (∀ a x, ((![v210] : Fin 1 → IVec S16 32) a x).toNat < S64.size a)
theorem k0_idx54_inb : ∀ (v210 : IVec S16 32) (k0_hw54 : k0_chk54 v210), ∀ a x, ((![v210] : Fin 1 → IVec S16 32) a x).toNat < S64.size a := fun v210 k0_hw54 => k0_hw54

def k0_chk55 (v213 : IVec S16 32) : Prop :=
  (∀ a x, ((![v213] : Fin 1 → IVec S16 32) a x).toNat < S64.size a)
theorem k0_idx55_inb : ∀ (v213 : IVec S16 32) (k0_hw55 : k0_chk55 v213), ∀ a x, ((![v213] : Fin 1 → IVec S16 32) a x).toNat < S64.size a := fun v213 k0_hw55 => k0_hw55

def k0_chk56 (v216 : IVec S16 32) : Prop :=
  (∀ a x, ((![v216] : Fin 1 → IVec S16 32) a x).toNat < S64.size a)
theorem k0_idx56_inb : ∀ (v216 : IVec S16 32) (k0_hw56 : k0_chk56 v216), ∀ a x, ((![v216] : Fin 1 → IVec S16 32) a x).toNat < S64.size a := fun v216 k0_hw56 => k0_hw56

def k0_chk57 (v219 : IVec S16 32) : Prop :=
  (∀ a x, ((![v219] : Fin 1 → IVec S16 32) a x).toNat < S64.size a)
theorem k0_idx57_inb : ∀ (v219 : IVec S16 32) (k0_hw57 : k0_chk57 v219), ∀ a x, ((![v219] : Fin 1 → IVec S16 32) a x).toNat < S64.size a := fun v219 k0_hw57 => k0_hw57

def k0_chk58 (v222 : IVec S16 32) : Prop :=
  (∀ a x, ((![v222] : Fin 1 → IVec S16 32) a x).toNat < S64.size a)
theorem k0_idx58_inb : ∀ (v222 : IVec S16 32) (k0_hw58 : k0_chk58 v222), ∀ a x, ((![v222] : Fin 1 → IVec S16 32) a x).toNat < S64.size a := fun v222 k0_hw58 => k0_hw58

def k0_chk59 (v225 : IVec S16 32) : Prop :=
  (∀ a x, ((![v225] : Fin 1 → IVec S16 32) a x).toNat < S64.size a)
theorem k0_idx59_inb : ∀ (v225 : IVec S16 32) (k0_hw59 : k0_chk59 v225), ∀ a x, ((![v225] : Fin 1 → IVec S16 32) a x).toNat < S64.size a := fun v225 k0_hw59 => k0_hw59

def k0_chk60 (v228 : IVec S16 32) : Prop :=
  (∀ a x, ((![v228] : Fin 1 → IVec S16 32) a x).toNat < S64.size a)
theorem k0_idx60_inb : ∀ (v228 : IVec S16 32) (k0_hw60 : k0_chk60 v228), ∀ a x, ((![v228] : Fin 1 → IVec S16 32) a x).toNat < S64.size a := fun v228 k0_hw60 => k0_hw60

def k0_chk61 (v231 : IVec S16 32) : Prop :=
  (∀ a x, ((![v231] : Fin 1 → IVec S16 32) a x).toNat < S64.size a)
theorem k0_idx61_inb : ∀ (v231 : IVec S16 32) (k0_hw61 : k0_chk61 v231), ∀ a x, ((![v231] : Fin 1 → IVec S16 32) a x).toNat < S64.size a := fun v231 k0_hw61 => k0_hw61

def k0_chk62 (v234 : IVec S16 32) : Prop :=
  (∀ a x, ((![v234] : Fin 1 → IVec S16 32) a x).toNat < S64.size a)
theorem k0_idx62_inb : ∀ (v234 : IVec S16 32) (k0_hw62 : k0_chk62 v234), ∀ a x, ((![v234] : Fin 1 → IVec S16 32) a x).toNat < S64.size a := fun v234 k0_hw62 => k0_hw62

def k0_chk63 (v237 : IVec S16 32) : Prop :=
  (∀ a x, ((![v237] : Fin 1 → IVec S16 32) a x).toNat < S64.size a)
theorem k0_idx63_inb : ∀ (v237 : IVec S16 32) (k0_hw63 : k0_chk63 v237), ∀ a x, ((![v237] : Fin 1 → IVec S16 32) a x).toNat < S64.size a := fun v237 k0_hw63 => k0_hw63

def k0_chk64 (v240 : IVec S16 32) : Prop :=
  (∀ a x, ((![v240] : Fin 1 → IVec S16 32) a x).toNat < S64.size a)
theorem k0_idx64_inb : ∀ (v240 : IVec S16 32) (k0_hw64 : k0_chk64 v240), ∀ a x, ((![v240] : Fin 1 → IVec S16 32) a x).toNat < S64.size a := fun v240 k0_hw64 => k0_hw64

def k0_chk65 (v243 : IVec S16 32) : Prop :=
  (∀ a x, ((![v243] : Fin 1 → IVec S16 32) a x).toNat < S64.size a)
theorem k0_idx65_inb : ∀ (v243 : IVec S16 32) (k0_hw65 : k0_chk65 v243), ∀ a x, ((![v243] : Fin 1 → IVec S16 32) a x).toNat < S64.size a := fun v243 k0_hw65 => k0_hw65

def k0_chk66 (v246 : IVec S16 32) : Prop :=
  (∀ a x, ((![v246] : Fin 1 → IVec S16 32) a x).toNat < S64.size a)
theorem k0_idx66_inb : ∀ (v246 : IVec S16 32) (k0_hw66 : k0_chk66 v246), ∀ a x, ((![v246] : Fin 1 → IVec S16 32) a x).toNat < S64.size a := fun v246 k0_hw66 => k0_hw66

def k0_chk67 (v249 : IVec S16 32) : Prop :=
  (∀ a x, ((![v249] : Fin 1 → IVec S16 32) a x).toNat < S64.size a)
theorem k0_idx67_inb : ∀ (v249 : IVec S16 32) (k0_hw67 : k0_chk67 v249), ∀ a x, ((![v249] : Fin 1 → IVec S16 32) a x).toNat < S64.size a := fun v249 k0_hw67 => k0_hw67

def k0_chk68 (v252 : IVec S16 32) : Prop :=
  (∀ a x, ((![v252] : Fin 1 → IVec S16 32) a x).toNat < S64.size a)
theorem k0_idx68_inb : ∀ (v252 : IVec S16 32) (k0_hw68 : k0_chk68 v252), ∀ a x, ((![v252] : Fin 1 → IVec S16 32) a x).toNat < S64.size a := fun v252 k0_hw68 => k0_hw68

def k0_chk69 (v255 : IVec S16 32) : Prop :=
  (∀ a x, ((![v255] : Fin 1 → IVec S16 32) a x).toNat < S64.size a)
theorem k0_idx69_inb : ∀ (v255 : IVec S16 32) (k0_hw69 : k0_chk69 v255), ∀ a x, ((![v255] : Fin 1 → IVec S16 32) a x).toNat < S64.size a := fun v255 k0_hw69 => k0_hw69

def k0_chk70 (v258 : IVec S16 32) : Prop :=
  (∀ a x, ((![v258] : Fin 1 → IVec S16 32) a x).toNat < S64.size a)
theorem k0_idx70_inb : ∀ (v258 : IVec S16 32) (k0_hw70 : k0_chk70 v258), ∀ a x, ((![v258] : Fin 1 → IVec S16 32) a x).toNat < S64.size a := fun v258 k0_hw70 => k0_hw70

def k0_chk71 (v261 : IVec S16 32) : Prop :=
  (∀ a x, ((![v261] : Fin 1 → IVec S16 32) a x).toNat < S64.size a)
theorem k0_idx71_inb : ∀ (v261 : IVec S16 32) (k0_hw71 : k0_chk71 v261), ∀ a x, ((![v261] : Fin 1 → IVec S16 32) a x).toNat < S64.size a := fun v261 k0_hw71 => k0_hw71

def k0_chk72 (v264 : IVec S16 32) : Prop :=
  (∀ a x, ((![v264] : Fin 1 → IVec S16 32) a x).toNat < S64.size a)
theorem k0_idx72_inb : ∀ (v264 : IVec S16 32) (k0_hw72 : k0_chk72 v264), ∀ a x, ((![v264] : Fin 1 → IVec S16 32) a x).toNat < S64.size a := fun v264 k0_hw72 => k0_hw72
@[reducible] def k0_t1_loop : Scf.Loop 32 :=
  let c0_i32_27 : BitVec 32 := 0#32
  let c1600_i32 : BitVec 32 := 1600#32
  let v268 : BitVec 32 := Scalar.addi c0_i32_27 c1600_i32
  let c1_i32_28 : BitVec 32 := 1#32
  ⟨c0_i32_27, v268, c1_i32_28⟩
def k0_off2 (k0_t1 : Fin k0_t1_loop.trips) : Fin 1 → Nat :=
  let c0_i32_27 : BitVec 32 := 0#32
  let c1_i32_28 : BitVec 32 := 1#32
  let arg11 : BitVec 32 := Scf.iv c0_i32_27 c1_i32_28 k0_t1
  let c16_i32_38 : BitVec 32 := 16#32
  let v278 : BitVec 32 := Scalar.muli arg11 c16_i32_38
  let v279 : Index := Scalar.indexCast v278
  ![v279.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c64_i32 : BitVec 32 := 64#32
  let v3 : BitVec 32 := Scalar.muli v2 c64_i32
  ![v3.toNat]
@[reducible] def k0_t2_loop : Scf.Loop 32 :=
  let c0_i32_33 : BitVec 32 := 0#32
  let c64_i32_34 : BitVec 32 := 64#32
  let v276 : BitVec 32 := Scalar.addi c0_i32_33 c64_i32_34
  let c1_i32_35 : BitVec 32 := 1#32
  ⟨c0_i32_33, v276, c1_i32_35⟩

def k0_chk73 (v285 : IVec S16 32) : Prop :=
  (∀ a x, ((![v285] : Fin 1 → IVec S16 32) a x).toNat < S65536.size a)
theorem k0_idx73_inb : ∀ (v285 : IVec S16 32) (k0_hw73 : k0_chk73 v285), ∀ a x, ((![v285] : Fin 1 → IVec S16 32) a x).toNat < S65536.size a := fun v285 k0_hw73 => k0_hw73

def k0_chk74 (v287 : IVec S16 32) : Prop :=
  (∀ a x, ((![v287] : Fin 1 → IVec S16 32) a x).toNat < S25600.size a)
theorem k0_idx74_inb : ∀ (v287 : IVec S16 32) (k0_hw74 : k0_chk74 v287), ∀ a x, ((![v287] : Fin 1 → IVec S16 32) a x).toNat < S25600.size a := fun v287 k0_hw74 => k0_hw74

def k0_chk75 (v290 : IVec S16 32) : Prop :=
  (∀ a x, ((![v290] : Fin 1 → IVec S16 32) a x).toNat < S65536.size a)
theorem k0_idx75_inb : ∀ (v290 : IVec S16 32) (k0_hw75 : k0_chk75 v290), ∀ a x, ((![v290] : Fin 1 → IVec S16 32) a x).toNat < S65536.size a := fun v290 k0_hw75 => k0_hw75

def k0_chk76 (v292 : IVec S16 32) : Prop :=
  (∀ a x, ((![v292] : Fin 1 → IVec S16 32) a x).toNat < S25600.size a)
theorem k0_idx76_inb : ∀ (v292 : IVec S16 32) (k0_hw76 : k0_chk76 v292), ∀ a x, ((![v292] : Fin 1 → IVec S16 32) a x).toNat < S25600.size a := fun v292 k0_hw76 => k0_hw76

def k0_chk77 (v295 : IVec S16 32) : Prop :=
  (∀ a x, ((![v295] : Fin 1 → IVec S16 32) a x).toNat < S65536.size a)
theorem k0_idx77_inb : ∀ (v295 : IVec S16 32) (k0_hw77 : k0_chk77 v295), ∀ a x, ((![v295] : Fin 1 → IVec S16 32) a x).toNat < S65536.size a := fun v295 k0_hw77 => k0_hw77

def k0_chk78 (v297 : IVec S16 32) : Prop :=
  (∀ a x, ((![v297] : Fin 1 → IVec S16 32) a x).toNat < S25600.size a)
theorem k0_idx78_inb : ∀ (v297 : IVec S16 32) (k0_hw78 : k0_chk78 v297), ∀ a x, ((![v297] : Fin 1 → IVec S16 32) a x).toNat < S25600.size a := fun v297 k0_hw78 => k0_hw78

def k0_chk79 (v300 : IVec S16 32) : Prop :=
  (∀ a x, ((![v300] : Fin 1 → IVec S16 32) a x).toNat < S65536.size a)
theorem k0_idx79_inb : ∀ (v300 : IVec S16 32) (k0_hw79 : k0_chk79 v300), ∀ a x, ((![v300] : Fin 1 → IVec S16 32) a x).toNat < S65536.size a := fun v300 k0_hw79 => k0_hw79

def k0_chk80 (v302 : IVec S16 32) : Prop :=
  (∀ a x, ((![v302] : Fin 1 → IVec S16 32) a x).toNat < S25600.size a)
theorem k0_idx80_inb : ∀ (v302 : IVec S16 32) (k0_hw80 : k0_chk80 v302), ∀ a x, ((![v302] : Fin 1 → IVec S16 32) a x).toNat < S25600.size a := fun v302 k0_hw80 => k0_hw80

def k0_chk81 (v305 : IVec S16 32) : Prop :=
  (∀ a x, ((![v305] : Fin 1 → IVec S16 32) a x).toNat < S65536.size a)
theorem k0_idx81_inb : ∀ (v305 : IVec S16 32) (k0_hw81 : k0_chk81 v305), ∀ a x, ((![v305] : Fin 1 → IVec S16 32) a x).toNat < S65536.size a := fun v305 k0_hw81 => k0_hw81

def k0_chk82 (v307 : IVec S16 32) : Prop :=
  (∀ a x, ((![v307] : Fin 1 → IVec S16 32) a x).toNat < S25600.size a)
theorem k0_idx82_inb : ∀ (v307 : IVec S16 32) (k0_hw82 : k0_chk82 v307), ∀ a x, ((![v307] : Fin 1 → IVec S16 32) a x).toNat < S25600.size a := fun v307 k0_hw82 => k0_hw82

def k0_chk83 (v310 : IVec S16 32) : Prop :=
  (∀ a x, ((![v310] : Fin 1 → IVec S16 32) a x).toNat < S65536.size a)
theorem k0_idx83_inb : ∀ (v310 : IVec S16 32) (k0_hw83 : k0_chk83 v310), ∀ a x, ((![v310] : Fin 1 → IVec S16 32) a x).toNat < S65536.size a := fun v310 k0_hw83 => k0_hw83

def k0_chk84 (v312 : IVec S16 32) : Prop :=
  (∀ a x, ((![v312] : Fin 1 → IVec S16 32) a x).toNat < S25600.size a)
theorem k0_idx84_inb : ∀ (v312 : IVec S16 32) (k0_hw84 : k0_chk84 v312), ∀ a x, ((![v312] : Fin 1 → IVec S16 32) a x).toNat < S25600.size a := fun v312 k0_hw84 => k0_hw84

def k0_chk85 (v315 : IVec S16 32) : Prop :=
  (∀ a x, ((![v315] : Fin 1 → IVec S16 32) a x).toNat < S65536.size a)
theorem k0_idx85_inb : ∀ (v315 : IVec S16 32) (k0_hw85 : k0_chk85 v315), ∀ a x, ((![v315] : Fin 1 → IVec S16 32) a x).toNat < S65536.size a := fun v315 k0_hw85 => k0_hw85

def k0_chk86 (v317 : IVec S16 32) : Prop :=
  (∀ a x, ((![v317] : Fin 1 → IVec S16 32) a x).toNat < S25600.size a)
theorem k0_idx86_inb : ∀ (v317 : IVec S16 32) (k0_hw86 : k0_chk86 v317), ∀ a x, ((![v317] : Fin 1 → IVec S16 32) a x).toNat < S25600.size a := fun v317 k0_hw86 => k0_hw86

def k0_chk87 (v320 : IVec S16 32) : Prop :=
  (∀ a x, ((![v320] : Fin 1 → IVec S16 32) a x).toNat < S65536.size a)
theorem k0_idx87_inb : ∀ (v320 : IVec S16 32) (k0_hw87 : k0_chk87 v320), ∀ a x, ((![v320] : Fin 1 → IVec S16 32) a x).toNat < S65536.size a := fun v320 k0_hw87 => k0_hw87

def k0_chk88 (v322 : IVec S16 32) : Prop :=
  (∀ a x, ((![v322] : Fin 1 → IVec S16 32) a x).toNat < S25600.size a)
theorem k0_idx88_inb : ∀ (v322 : IVec S16 32) (k0_hw88 : k0_chk88 v322), ∀ a x, ((![v322] : Fin 1 → IVec S16 32) a x).toNat < S25600.size a := fun v322 k0_hw88 => k0_hw88

def k0_chk89 (v325 : IVec S16 32) : Prop :=
  (∀ a x, ((![v325] : Fin 1 → IVec S16 32) a x).toNat < S65536.size a)
theorem k0_idx89_inb : ∀ (v325 : IVec S16 32) (k0_hw89 : k0_chk89 v325), ∀ a x, ((![v325] : Fin 1 → IVec S16 32) a x).toNat < S65536.size a := fun v325 k0_hw89 => k0_hw89

def k0_chk90 (v327 : IVec S16 32) : Prop :=
  (∀ a x, ((![v327] : Fin 1 → IVec S16 32) a x).toNat < S25600.size a)
theorem k0_idx90_inb : ∀ (v327 : IVec S16 32) (k0_hw90 : k0_chk90 v327), ∀ a x, ((![v327] : Fin 1 → IVec S16 32) a x).toNat < S25600.size a := fun v327 k0_hw90 => k0_hw90

def k0_chk91 (v330 : IVec S16 32) : Prop :=
  (∀ a x, ((![v330] : Fin 1 → IVec S16 32) a x).toNat < S65536.size a)
theorem k0_idx91_inb : ∀ (v330 : IVec S16 32) (k0_hw91 : k0_chk91 v330), ∀ a x, ((![v330] : Fin 1 → IVec S16 32) a x).toNat < S65536.size a := fun v330 k0_hw91 => k0_hw91

def k0_chk92 (v332 : IVec S16 32) : Prop :=
  (∀ a x, ((![v332] : Fin 1 → IVec S16 32) a x).toNat < S25600.size a)
theorem k0_idx92_inb : ∀ (v332 : IVec S16 32) (k0_hw92 : k0_chk92 v332), ∀ a x, ((![v332] : Fin 1 → IVec S16 32) a x).toNat < S25600.size a := fun v332 k0_hw92 => k0_hw92

def k0_chk93 (v335 : IVec S16 32) : Prop :=
  (∀ a x, ((![v335] : Fin 1 → IVec S16 32) a x).toNat < S65536.size a)
theorem k0_idx93_inb : ∀ (v335 : IVec S16 32) (k0_hw93 : k0_chk93 v335), ∀ a x, ((![v335] : Fin 1 → IVec S16 32) a x).toNat < S65536.size a := fun v335 k0_hw93 => k0_hw93

def k0_chk94 (v337 : IVec S16 32) : Prop :=
  (∀ a x, ((![v337] : Fin 1 → IVec S16 32) a x).toNat < S25600.size a)
theorem k0_idx94_inb : ∀ (v337 : IVec S16 32) (k0_hw94 : k0_chk94 v337), ∀ a x, ((![v337] : Fin 1 → IVec S16 32) a x).toNat < S25600.size a := fun v337 k0_hw94 => k0_hw94

def k0_chk95 (v340 : IVec S16 32) : Prop :=
  (∀ a x, ((![v340] : Fin 1 → IVec S16 32) a x).toNat < S65536.size a)
theorem k0_idx95_inb : ∀ (v340 : IVec S16 32) (k0_hw95 : k0_chk95 v340), ∀ a x, ((![v340] : Fin 1 → IVec S16 32) a x).toNat < S65536.size a := fun v340 k0_hw95 => k0_hw95

def k0_chk96 (v342 : IVec S16 32) : Prop :=
  (∀ a x, ((![v342] : Fin 1 → IVec S16 32) a x).toNat < S25600.size a)
theorem k0_idx96_inb : ∀ (v342 : IVec S16 32) (k0_hw96 : k0_chk96 v342), ∀ a x, ((![v342] : Fin 1 → IVec S16 32) a x).toNat < S25600.size a := fun v342 k0_hw96 => k0_hw96

def k0_chk97 (v345 : IVec S16 32) : Prop :=
  (∀ a x, ((![v345] : Fin 1 → IVec S16 32) a x).toNat < S65536.size a)
theorem k0_idx97_inb : ∀ (v345 : IVec S16 32) (k0_hw97 : k0_chk97 v345), ∀ a x, ((![v345] : Fin 1 → IVec S16 32) a x).toNat < S65536.size a := fun v345 k0_hw97 => k0_hw97

def k0_chk98 (v347 : IVec S16 32) : Prop :=
  (∀ a x, ((![v347] : Fin 1 → IVec S16 32) a x).toNat < S25600.size a)
theorem k0_idx98_inb : ∀ (v347 : IVec S16 32) (k0_hw98 : k0_chk98 v347), ∀ a x, ((![v347] : Fin 1 → IVec S16 32) a x).toNat < S25600.size a := fun v347 k0_hw98 => k0_hw98

def k0_chk99 (v350 : IVec S16 32) : Prop :=
  (∀ a x, ((![v350] : Fin 1 → IVec S16 32) a x).toNat < S65536.size a)
theorem k0_idx99_inb : ∀ (v350 : IVec S16 32) (k0_hw99 : k0_chk99 v350), ∀ a x, ((![v350] : Fin 1 → IVec S16 32) a x).toNat < S65536.size a := fun v350 k0_hw99 => k0_hw99

def k0_chk100 (v352 : IVec S16 32) : Prop :=
  (∀ a x, ((![v352] : Fin 1 → IVec S16 32) a x).toNat < S25600.size a)
theorem k0_idx100_inb : ∀ (v352 : IVec S16 32) (k0_hw100 : k0_chk100 v352), ∀ a x, ((![v352] : Fin 1 → IVec S16 32) a x).toNat < S25600.size a := fun v352 k0_hw100 => k0_hw100

def k0_chk101 (v355 : IVec S16 32) : Prop :=
  (∀ a x, ((![v355] : Fin 1 → IVec S16 32) a x).toNat < S65536.size a)
theorem k0_idx101_inb : ∀ (v355 : IVec S16 32) (k0_hw101 : k0_chk101 v355), ∀ a x, ((![v355] : Fin 1 → IVec S16 32) a x).toNat < S65536.size a := fun v355 k0_hw101 => k0_hw101

def k0_chk102 (v357 : IVec S16 32) : Prop :=
  (∀ a x, ((![v357] : Fin 1 → IVec S16 32) a x).toNat < S25600.size a)
theorem k0_idx102_inb : ∀ (v357 : IVec S16 32) (k0_hw102 : k0_chk102 v357), ∀ a x, ((![v357] : Fin 1 → IVec S16 32) a x).toNat < S25600.size a := fun v357 k0_hw102 => k0_hw102

def k0_chk103 (v360 : IVec S16 32) : Prop :=
  (∀ a x, ((![v360] : Fin 1 → IVec S16 32) a x).toNat < S65536.size a)
theorem k0_idx103_inb : ∀ (v360 : IVec S16 32) (k0_hw103 : k0_chk103 v360), ∀ a x, ((![v360] : Fin 1 → IVec S16 32) a x).toNat < S65536.size a := fun v360 k0_hw103 => k0_hw103

def k0_chk104 (v362 : IVec S16 32) : Prop :=
  (∀ a x, ((![v362] : Fin 1 → IVec S16 32) a x).toNat < S25600.size a)
theorem k0_idx104_inb : ∀ (v362 : IVec S16 32) (k0_hw104 : k0_chk104 v362), ∀ a x, ((![v362] : Fin 1 → IVec S16 32) a x).toNat < S25600.size a := fun v362 k0_hw104 => k0_hw104

def k0_chk105 (v365 : IVec S16 32) : Prop :=
  (∀ a x, ((![v365] : Fin 1 → IVec S16 32) a x).toNat < S65536.size a)
theorem k0_idx105_inb : ∀ (v365 : IVec S16 32) (k0_hw105 : k0_chk105 v365), ∀ a x, ((![v365] : Fin 1 → IVec S16 32) a x).toNat < S65536.size a := fun v365 k0_hw105 => k0_hw105

def k0_chk106 (v367 : IVec S16 32) : Prop :=
  (∀ a x, ((![v367] : Fin 1 → IVec S16 32) a x).toNat < S25600.size a)
theorem k0_idx106_inb : ∀ (v367 : IVec S16 32) (k0_hw106 : k0_chk106 v367), ∀ a x, ((![v367] : Fin 1 → IVec S16 32) a x).toNat < S25600.size a := fun v367 k0_hw106 => k0_hw106

def k0_chk107 (v370 : IVec S16 32) : Prop :=
  (∀ a x, ((![v370] : Fin 1 → IVec S16 32) a x).toNat < S65536.size a)
theorem k0_idx107_inb : ∀ (v370 : IVec S16 32) (k0_hw107 : k0_chk107 v370), ∀ a x, ((![v370] : Fin 1 → IVec S16 32) a x).toNat < S65536.size a := fun v370 k0_hw107 => k0_hw107

def k0_chk108 (v372 : IVec S16 32) : Prop :=
  (∀ a x, ((![v372] : Fin 1 → IVec S16 32) a x).toNat < S25600.size a)
theorem k0_idx108_inb : ∀ (v372 : IVec S16 32) (k0_hw108 : k0_chk108 v372), ∀ a x, ((![v372] : Fin 1 → IVec S16 32) a x).toNat < S25600.size a := fun v372 k0_hw108 => k0_hw108

def k0_chk109 (v375 : IVec S16 32) : Prop :=
  (∀ a x, ((![v375] : Fin 1 → IVec S16 32) a x).toNat < S65536.size a)
theorem k0_idx109_inb : ∀ (v375 : IVec S16 32) (k0_hw109 : k0_chk109 v375), ∀ a x, ((![v375] : Fin 1 → IVec S16 32) a x).toNat < S65536.size a := fun v375 k0_hw109 => k0_hw109

def k0_chk110 (v377 : IVec S16 32) : Prop :=
  (∀ a x, ((![v377] : Fin 1 → IVec S16 32) a x).toNat < S25600.size a)
theorem k0_idx110_inb : ∀ (v377 : IVec S16 32) (k0_hw110 : k0_chk110 v377), ∀ a x, ((![v377] : Fin 1 → IVec S16 32) a x).toNat < S25600.size a := fun v377 k0_hw110 => k0_hw110

def k0_chk111 (v380 : IVec S16 32) : Prop :=
  (∀ a x, ((![v380] : Fin 1 → IVec S16 32) a x).toNat < S65536.size a)
theorem k0_idx111_inb : ∀ (v380 : IVec S16 32) (k0_hw111 : k0_chk111 v380), ∀ a x, ((![v380] : Fin 1 → IVec S16 32) a x).toNat < S65536.size a := fun v380 k0_hw111 => k0_hw111

def k0_chk112 (v382 : IVec S16 32) : Prop :=
  (∀ a x, ((![v382] : Fin 1 → IVec S16 32) a x).toNat < S25600.size a)
theorem k0_idx112_inb : ∀ (v382 : IVec S16 32) (k0_hw112 : k0_chk112 v382), ∀ a x, ((![v382] : Fin 1 → IVec S16 32) a x).toNat < S25600.size a := fun v382 k0_hw112 => k0_hw112

def k0_chk113 (v385 : IVec S16 32) : Prop :=
  (∀ a x, ((![v385] : Fin 1 → IVec S16 32) a x).toNat < S65536.size a)
theorem k0_idx113_inb : ∀ (v385 : IVec S16 32) (k0_hw113 : k0_chk113 v385), ∀ a x, ((![v385] : Fin 1 → IVec S16 32) a x).toNat < S65536.size a := fun v385 k0_hw113 => k0_hw113

def k0_chk114 (v387 : IVec S16 32) : Prop :=
  (∀ a x, ((![v387] : Fin 1 → IVec S16 32) a x).toNat < S25600.size a)
theorem k0_idx114_inb : ∀ (v387 : IVec S16 32) (k0_hw114 : k0_chk114 v387), ∀ a x, ((![v387] : Fin 1 → IVec S16 32) a x).toNat < S25600.size a := fun v387 k0_hw114 => k0_hw114

def k0_chk115 (v390 : IVec S16 32) : Prop :=
  (∀ a x, ((![v390] : Fin 1 → IVec S16 32) a x).toNat < S65536.size a)
theorem k0_idx115_inb : ∀ (v390 : IVec S16 32) (k0_hw115 : k0_chk115 v390), ∀ a x, ((![v390] : Fin 1 → IVec S16 32) a x).toNat < S65536.size a := fun v390 k0_hw115 => k0_hw115

def k0_chk116 (v392 : IVec S16 32) : Prop :=
  (∀ a x, ((![v392] : Fin 1 → IVec S16 32) a x).toNat < S25600.size a)
theorem k0_idx116_inb : ∀ (v392 : IVec S16 32) (k0_hw116 : k0_chk116 v392), ∀ a x, ((![v392] : Fin 1 → IVec S16 32) a x).toNat < S25600.size a := fun v392 k0_hw116 => k0_hw116

def k0_chk117 (v395 : IVec S16 32) : Prop :=
  (∀ a x, ((![v395] : Fin 1 → IVec S16 32) a x).toNat < S65536.size a)
theorem k0_idx117_inb : ∀ (v395 : IVec S16 32) (k0_hw117 : k0_chk117 v395), ∀ a x, ((![v395] : Fin 1 → IVec S16 32) a x).toNat < S65536.size a := fun v395 k0_hw117 => k0_hw117

def k0_chk118 (v397 : IVec S16 32) : Prop :=
  (∀ a x, ((![v397] : Fin 1 → IVec S16 32) a x).toNat < S25600.size a)
theorem k0_idx118_inb : ∀ (v397 : IVec S16 32) (k0_hw118 : k0_chk118 v397), ∀ a x, ((![v397] : Fin 1 → IVec S16 32) a x).toNat < S25600.size a := fun v397 k0_hw118 => k0_hw118

def k0_chk119 (v400 : IVec S16 32) : Prop :=
  (∀ a x, ((![v400] : Fin 1 → IVec S16 32) a x).toNat < S65536.size a)
theorem k0_idx119_inb : ∀ (v400 : IVec S16 32) (k0_hw119 : k0_chk119 v400), ∀ a x, ((![v400] : Fin 1 → IVec S16 32) a x).toNat < S65536.size a := fun v400 k0_hw119 => k0_hw119

def k0_chk120 (v402 : IVec S16 32) : Prop :=
  (∀ a x, ((![v402] : Fin 1 → IVec S16 32) a x).toNat < S25600.size a)
theorem k0_idx120_inb : ∀ (v402 : IVec S16 32) (k0_hw120 : k0_chk120 v402), ∀ a x, ((![v402] : Fin 1 → IVec S16 32) a x).toNat < S25600.size a := fun v402 k0_hw120 => k0_hw120

def k0_chk121 (v405 : IVec S16 32) : Prop :=
  (∀ a x, ((![v405] : Fin 1 → IVec S16 32) a x).toNat < S65536.size a)
theorem k0_idx121_inb : ∀ (v405 : IVec S16 32) (k0_hw121 : k0_chk121 v405), ∀ a x, ((![v405] : Fin 1 → IVec S16 32) a x).toNat < S65536.size a := fun v405 k0_hw121 => k0_hw121

def k0_chk122 (v407 : IVec S16 32) : Prop :=
  (∀ a x, ((![v407] : Fin 1 → IVec S16 32) a x).toNat < S25600.size a)
theorem k0_idx122_inb : ∀ (v407 : IVec S16 32) (k0_hw122 : k0_chk122 v407), ∀ a x, ((![v407] : Fin 1 → IVec S16 32) a x).toNat < S25600.size a := fun v407 k0_hw122 => k0_hw122

def k0_chk123 (v410 : IVec S16 32) : Prop :=
  (∀ a x, ((![v410] : Fin 1 → IVec S16 32) a x).toNat < S65536.size a)
theorem k0_idx123_inb : ∀ (v410 : IVec S16 32) (k0_hw123 : k0_chk123 v410), ∀ a x, ((![v410] : Fin 1 → IVec S16 32) a x).toNat < S65536.size a := fun v410 k0_hw123 => k0_hw123

def k0_chk124 (v412 : IVec S16 32) : Prop :=
  (∀ a x, ((![v412] : Fin 1 → IVec S16 32) a x).toNat < S25600.size a)
theorem k0_idx124_inb : ∀ (v412 : IVec S16 32) (k0_hw124 : k0_chk124 v412), ∀ a x, ((![v412] : Fin 1 → IVec S16 32) a x).toNat < S25600.size a := fun v412 k0_hw124 => k0_hw124

def k0_chk125 (v415 : IVec S16 32) : Prop :=
  (∀ a x, ((![v415] : Fin 1 → IVec S16 32) a x).toNat < S65536.size a)
theorem k0_idx125_inb : ∀ (v415 : IVec S16 32) (k0_hw125 : k0_chk125 v415), ∀ a x, ((![v415] : Fin 1 → IVec S16 32) a x).toNat < S65536.size a := fun v415 k0_hw125 => k0_hw125

def k0_chk126 (v417 : IVec S16 32) : Prop :=
  (∀ a x, ((![v417] : Fin 1 → IVec S16 32) a x).toNat < S25600.size a)
theorem k0_idx126_inb : ∀ (v417 : IVec S16 32) (k0_hw126 : k0_chk126 v417), ∀ a x, ((![v417] : Fin 1 → IVec S16 32) a x).toNat < S25600.size a := fun v417 k0_hw126 => k0_hw126

def k0_chk127 (v420 : IVec S16 32) : Prop :=
  (∀ a x, ((![v420] : Fin 1 → IVec S16 32) a x).toNat < S65536.size a)
theorem k0_idx127_inb : ∀ (v420 : IVec S16 32) (k0_hw127 : k0_chk127 v420), ∀ a x, ((![v420] : Fin 1 → IVec S16 32) a x).toNat < S65536.size a := fun v420 k0_hw127 => k0_hw127

def k0_chk128 (v422 : IVec S16 32) : Prop :=
  (∀ a x, ((![v422] : Fin 1 → IVec S16 32) a x).toNat < S25600.size a)
theorem k0_idx128_inb : ∀ (v422 : IVec S16 32) (k0_hw128 : k0_chk128 v422), ∀ a x, ((![v422] : Fin 1 → IVec S16 32) a x).toNat < S25600.size a := fun v422 k0_hw128 => k0_hw128

def k0_chk129 (v425 : IVec S16 32) : Prop :=
  (∀ a x, ((![v425] : Fin 1 → IVec S16 32) a x).toNat < S65536.size a)
theorem k0_idx129_inb : ∀ (v425 : IVec S16 32) (k0_hw129 : k0_chk129 v425), ∀ a x, ((![v425] : Fin 1 → IVec S16 32) a x).toNat < S65536.size a := fun v425 k0_hw129 => k0_hw129

def k0_chk130 (v427 : IVec S16 32) : Prop :=
  (∀ a x, ((![v427] : Fin 1 → IVec S16 32) a x).toNat < S25600.size a)
theorem k0_idx130_inb : ∀ (v427 : IVec S16 32) (k0_hw130 : k0_chk130 v427), ∀ a x, ((![v427] : Fin 1 → IVec S16 32) a x).toNat < S25600.size a := fun v427 k0_hw130 => k0_hw130

def k0_chk131 (v430 : IVec S16 32) : Prop :=
  (∀ a x, ((![v430] : Fin 1 → IVec S16 32) a x).toNat < S65536.size a)
theorem k0_idx131_inb : ∀ (v430 : IVec S16 32) (k0_hw131 : k0_chk131 v430), ∀ a x, ((![v430] : Fin 1 → IVec S16 32) a x).toNat < S65536.size a := fun v430 k0_hw131 => k0_hw131

def k0_chk132 (v432 : IVec S16 32) : Prop :=
  (∀ a x, ((![v432] : Fin 1 → IVec S16 32) a x).toNat < S25600.size a)
theorem k0_idx132_inb : ∀ (v432 : IVec S16 32) (k0_hw132 : k0_chk132 v432), ∀ a x, ((![v432] : Fin 1 → IVec S16 32) a x).toNat < S25600.size a := fun v432 k0_hw132 => k0_hw132

def k0_chk133 (v435 : IVec S16 32) : Prop :=
  (∀ a x, ((![v435] : Fin 1 → IVec S16 32) a x).toNat < S65536.size a)
theorem k0_idx133_inb : ∀ (v435 : IVec S16 32) (k0_hw133 : k0_chk133 v435), ∀ a x, ((![v435] : Fin 1 → IVec S16 32) a x).toNat < S65536.size a := fun v435 k0_hw133 => k0_hw133

def k0_chk134 (v437 : IVec S16 32) : Prop :=
  (∀ a x, ((![v437] : Fin 1 → IVec S16 32) a x).toNat < S25600.size a)
theorem k0_idx134_inb : ∀ (v437 : IVec S16 32) (k0_hw134 : k0_chk134 v437), ∀ a x, ((![v437] : Fin 1 → IVec S16 32) a x).toNat < S25600.size a := fun v437 k0_hw134 => k0_hw134

def k0_chk135 (v440 : IVec S16 32) : Prop :=
  (∀ a x, ((![v440] : Fin 1 → IVec S16 32) a x).toNat < S65536.size a)
theorem k0_idx135_inb : ∀ (v440 : IVec S16 32) (k0_hw135 : k0_chk135 v440), ∀ a x, ((![v440] : Fin 1 → IVec S16 32) a x).toNat < S65536.size a := fun v440 k0_hw135 => k0_hw135

def k0_chk136 (v442 : IVec S16 32) : Prop :=
  (∀ a x, ((![v442] : Fin 1 → IVec S16 32) a x).toNat < S25600.size a)
theorem k0_idx136_inb : ∀ (v442 : IVec S16 32) (k0_hw136 : k0_chk136 v442), ∀ a x, ((![v442] : Fin 1 → IVec S16 32) a x).toNat < S25600.size a := fun v442 k0_hw136 => k0_hw136

def k0_chk137 (v445 : IVec S16 32) : Prop :=
  (∀ a x, ((![v445] : Fin 1 → IVec S16 32) a x).toNat < S65536.size a)
theorem k0_idx137_inb : ∀ (v445 : IVec S16 32) (k0_hw137 : k0_chk137 v445), ∀ a x, ((![v445] : Fin 1 → IVec S16 32) a x).toNat < S65536.size a := fun v445 k0_hw137 => k0_hw137

def k0_chk138 (v447 : IVec S16 32) : Prop :=
  (∀ a x, ((![v447] : Fin 1 → IVec S16 32) a x).toNat < S25600.size a)
theorem k0_idx138_inb : ∀ (v447 : IVec S16 32) (k0_hw138 : k0_chk138 v447), ∀ a x, ((![v447] : Fin 1 → IVec S16 32) a x).toNat < S25600.size a := fun v447 k0_hw138 => k0_hw138

def k0_chk139 (v450 : IVec S16 32) : Prop :=
  (∀ a x, ((![v450] : Fin 1 → IVec S16 32) a x).toNat < S65536.size a)
theorem k0_idx139_inb : ∀ (v450 : IVec S16 32) (k0_hw139 : k0_chk139 v450), ∀ a x, ((![v450] : Fin 1 → IVec S16 32) a x).toNat < S65536.size a := fun v450 k0_hw139 => k0_hw139

def k0_chk140 (v452 : IVec S16 32) : Prop :=
  (∀ a x, ((![v452] : Fin 1 → IVec S16 32) a x).toNat < S25600.size a)
theorem k0_idx140_inb : ∀ (v452 : IVec S16 32) (k0_hw140 : k0_chk140 v452), ∀ a x, ((![v452] : Fin 1 → IVec S16 32) a x).toNat < S25600.size a := fun v452 k0_hw140 => k0_hw140

def k0_chk141 (v455 : IVec S16 32) : Prop :=
  (∀ a x, ((![v455] : Fin 1 → IVec S16 32) a x).toNat < S65536.size a)
theorem k0_idx141_inb : ∀ (v455 : IVec S16 32) (k0_hw141 : k0_chk141 v455), ∀ a x, ((![v455] : Fin 1 → IVec S16 32) a x).toNat < S65536.size a := fun v455 k0_hw141 => k0_hw141

def k0_chk142 (v457 : IVec S16 32) : Prop :=
  (∀ a x, ((![v457] : Fin 1 → IVec S16 32) a x).toNat < S25600.size a)
theorem k0_idx142_inb : ∀ (v457 : IVec S16 32) (k0_hw142 : k0_chk142 v457), ∀ a x, ((![v457] : Fin 1 → IVec S16 32) a x).toNat < S25600.size a := fun v457 k0_hw142 => k0_hw142

def k0_chk143 (v460 : IVec S16 32) : Prop :=
  (∀ a x, ((![v460] : Fin 1 → IVec S16 32) a x).toNat < S65536.size a)
theorem k0_idx143_inb : ∀ (v460 : IVec S16 32) (k0_hw143 : k0_chk143 v460), ∀ a x, ((![v460] : Fin 1 → IVec S16 32) a x).toNat < S65536.size a := fun v460 k0_hw143 => k0_hw143

def k0_chk144 (v462 : IVec S16 32) : Prop :=
  (∀ a x, ((![v462] : Fin 1 → IVec S16 32) a x).toNat < S25600.size a)
theorem k0_idx144_inb : ∀ (v462 : IVec S16 32) (k0_hw144 : k0_chk144 v462), ∀ a x, ((![v462] : Fin 1 → IVec S16 32) a x).toNat < S25600.size a := fun v462 k0_hw144 => k0_hw144

def k0_chk145 (v465 : IVec S16 32) : Prop :=
  (∀ a x, ((![v465] : Fin 1 → IVec S16 32) a x).toNat < S65536.size a)
theorem k0_idx145_inb : ∀ (v465 : IVec S16 32) (k0_hw145 : k0_chk145 v465), ∀ a x, ((![v465] : Fin 1 → IVec S16 32) a x).toNat < S65536.size a := fun v465 k0_hw145 => k0_hw145

def k0_chk146 (v467 : IVec S16 32) : Prop :=
  (∀ a x, ((![v467] : Fin 1 → IVec S16 32) a x).toNat < S25600.size a)
theorem k0_idx146_inb : ∀ (v467 : IVec S16 32) (k0_hw146 : k0_chk146 v467), ∀ a x, ((![v467] : Fin 1 → IVec S16 32) a x).toNat < S25600.size a := fun v467 k0_hw146 => k0_hw146

def k0_chk147 (v470 : IVec S16 32) : Prop :=
  (∀ a x, ((![v470] : Fin 1 → IVec S16 32) a x).toNat < S65536.size a)
theorem k0_idx147_inb : ∀ (v470 : IVec S16 32) (k0_hw147 : k0_chk147 v470), ∀ a x, ((![v470] : Fin 1 → IVec S16 32) a x).toNat < S65536.size a := fun v470 k0_hw147 => k0_hw147

def k0_chk148 (v472 : IVec S16 32) : Prop :=
  (∀ a x, ((![v472] : Fin 1 → IVec S16 32) a x).toNat < S25600.size a)
theorem k0_idx148_inb : ∀ (v472 : IVec S16 32) (k0_hw148 : k0_chk148 v472), ∀ a x, ((![v472] : Fin 1 → IVec S16 32) a x).toNat < S25600.size a := fun v472 k0_hw148 => k0_hw148

def k0_chk149 (v475 : IVec S16 32) : Prop :=
  (∀ a x, ((![v475] : Fin 1 → IVec S16 32) a x).toNat < S65536.size a)
theorem k0_idx149_inb : ∀ (v475 : IVec S16 32) (k0_hw149 : k0_chk149 v475), ∀ a x, ((![v475] : Fin 1 → IVec S16 32) a x).toNat < S65536.size a := fun v475 k0_hw149 => k0_hw149

def k0_chk150 (v477 : IVec S16 32) : Prop :=
  (∀ a x, ((![v477] : Fin 1 → IVec S16 32) a x).toNat < S25600.size a)
theorem k0_idx150_inb : ∀ (v477 : IVec S16 32) (k0_hw150 : k0_chk150 v477), ∀ a x, ((![v477] : Fin 1 → IVec S16 32) a x).toNat < S25600.size a := fun v477 k0_hw150 => k0_hw150

def k0_chk151 (v480 : IVec S16 32) : Prop :=
  (∀ a x, ((![v480] : Fin 1 → IVec S16 32) a x).toNat < S65536.size a)
theorem k0_idx151_inb : ∀ (v480 : IVec S16 32) (k0_hw151 : k0_chk151 v480), ∀ a x, ((![v480] : Fin 1 → IVec S16 32) a x).toNat < S65536.size a := fun v480 k0_hw151 => k0_hw151

def k0_chk152 (v482 : IVec S16 32) : Prop :=
  (∀ a x, ((![v482] : Fin 1 → IVec S16 32) a x).toNat < S25600.size a)
theorem k0_idx152_inb : ∀ (v482 : IVec S16 32) (k0_hw152 : k0_chk152 v482), ∀ a x, ((![v482] : Fin 1 → IVec S16 32) a x).toNat < S25600.size a := fun v482 k0_hw152 => k0_hw152

def k0_chk153 (v485 : IVec S16 32) : Prop :=
  (∀ a x, ((![v485] : Fin 1 → IVec S16 32) a x).toNat < S65536.size a)
theorem k0_idx153_inb : ∀ (v485 : IVec S16 32) (k0_hw153 : k0_chk153 v485), ∀ a x, ((![v485] : Fin 1 → IVec S16 32) a x).toNat < S65536.size a := fun v485 k0_hw153 => k0_hw153

def k0_chk154 (v487 : IVec S16 32) : Prop :=
  (∀ a x, ((![v487] : Fin 1 → IVec S16 32) a x).toNat < S25600.size a)
theorem k0_idx154_inb : ∀ (v487 : IVec S16 32) (k0_hw154 : k0_chk154 v487), ∀ a x, ((![v487] : Fin 1 → IVec S16 32) a x).toNat < S25600.size a := fun v487 k0_hw154 => k0_hw154

def k0_chk155 (v490 : IVec S16 32) : Prop :=
  (∀ a x, ((![v490] : Fin 1 → IVec S16 32) a x).toNat < S65536.size a)
theorem k0_idx155_inb : ∀ (v490 : IVec S16 32) (k0_hw155 : k0_chk155 v490), ∀ a x, ((![v490] : Fin 1 → IVec S16 32) a x).toNat < S65536.size a := fun v490 k0_hw155 => k0_hw155

def k0_chk156 (v492 : IVec S16 32) : Prop :=
  (∀ a x, ((![v492] : Fin 1 → IVec S16 32) a x).toNat < S25600.size a)
theorem k0_idx156_inb : ∀ (v492 : IVec S16 32) (k0_hw156 : k0_chk156 v492), ∀ a x, ((![v492] : Fin 1 → IVec S16 32) a x).toNat < S25600.size a := fun v492 k0_hw156 => k0_hw156

def k0_chk157 (v495 : IVec S16 32) : Prop :=
  (∀ a x, ((![v495] : Fin 1 → IVec S16 32) a x).toNat < S65536.size a)
theorem k0_idx157_inb : ∀ (v495 : IVec S16 32) (k0_hw157 : k0_chk157 v495), ∀ a x, ((![v495] : Fin 1 → IVec S16 32) a x).toNat < S65536.size a := fun v495 k0_hw157 => k0_hw157

def k0_chk158 (v497 : IVec S16 32) : Prop :=
  (∀ a x, ((![v497] : Fin 1 → IVec S16 32) a x).toNat < S25600.size a)
theorem k0_idx158_inb : ∀ (v497 : IVec S16 32) (k0_hw158 : k0_chk158 v497), ∀ a x, ((![v497] : Fin 1 → IVec S16 32) a x).toNat < S25600.size a := fun v497 k0_hw158 => k0_hw158

def k0_chk159 (v500 : IVec S16 32) : Prop :=
  (∀ a x, ((![v500] : Fin 1 → IVec S16 32) a x).toNat < S65536.size a)
theorem k0_idx159_inb : ∀ (v500 : IVec S16 32) (k0_hw159 : k0_chk159 v500), ∀ a x, ((![v500] : Fin 1 → IVec S16 32) a x).toNat < S65536.size a := fun v500 k0_hw159 => k0_hw159

def k0_chk160 (v502 : IVec S16 32) : Prop :=
  (∀ a x, ((![v502] : Fin 1 → IVec S16 32) a x).toNat < S25600.size a)
theorem k0_idx160_inb : ∀ (v502 : IVec S16 32) (k0_hw160 : k0_chk160 v502), ∀ a x, ((![v502] : Fin 1 → IVec S16 32) a x).toNat < S25600.size a := fun v502 k0_hw160 => k0_hw160

def k0_chk161 (v505 : IVec S16 32) : Prop :=
  (∀ a x, ((![v505] : Fin 1 → IVec S16 32) a x).toNat < S65536.size a)
theorem k0_idx161_inb : ∀ (v505 : IVec S16 32) (k0_hw161 : k0_chk161 v505), ∀ a x, ((![v505] : Fin 1 → IVec S16 32) a x).toNat < S65536.size a := fun v505 k0_hw161 => k0_hw161

def k0_chk162 (v507 : IVec S16 32) : Prop :=
  (∀ a x, ((![v507] : Fin 1 → IVec S16 32) a x).toNat < S25600.size a)
theorem k0_idx162_inb : ∀ (v507 : IVec S16 32) (k0_hw162 : k0_chk162 v507), ∀ a x, ((![v507] : Fin 1 → IVec S16 32) a x).toNat < S25600.size a := fun v507 k0_hw162 => k0_hw162

def k0_chk163 (v510 : IVec S16 32) : Prop :=
  (∀ a x, ((![v510] : Fin 1 → IVec S16 32) a x).toNat < S65536.size a)
theorem k0_idx163_inb : ∀ (v510 : IVec S16 32) (k0_hw163 : k0_chk163 v510), ∀ a x, ((![v510] : Fin 1 → IVec S16 32) a x).toNat < S65536.size a := fun v510 k0_hw163 => k0_hw163

def k0_chk164 (v512 : IVec S16 32) : Prop :=
  (∀ a x, ((![v512] : Fin 1 → IVec S16 32) a x).toNat < S25600.size a)
theorem k0_idx164_inb : ∀ (v512 : IVec S16 32) (k0_hw164 : k0_chk164 v512), ∀ a x, ((![v512] : Fin 1 → IVec S16 32) a x).toNat < S25600.size a := fun v512 k0_hw164 => k0_hw164

def k0_chk165 (v515 : IVec S16 32) : Prop :=
  (∀ a x, ((![v515] : Fin 1 → IVec S16 32) a x).toNat < S65536.size a)
theorem k0_idx165_inb : ∀ (v515 : IVec S16 32) (k0_hw165 : k0_chk165 v515), ∀ a x, ((![v515] : Fin 1 → IVec S16 32) a x).toNat < S65536.size a := fun v515 k0_hw165 => k0_hw165

def k0_chk166 (v517 : IVec S16 32) : Prop :=
  (∀ a x, ((![v517] : Fin 1 → IVec S16 32) a x).toNat < S25600.size a)
theorem k0_idx166_inb : ∀ (v517 : IVec S16 32) (k0_hw166 : k0_chk166 v517), ∀ a x, ((![v517] : Fin 1 → IVec S16 32) a x).toNat < S25600.size a := fun v517 k0_hw166 => k0_hw166

def k0_chk167 (v520 : IVec S16 32) : Prop :=
  (∀ a x, ((![v520] : Fin 1 → IVec S16 32) a x).toNat < S65536.size a)
theorem k0_idx167_inb : ∀ (v520 : IVec S16 32) (k0_hw167 : k0_chk167 v520), ∀ a x, ((![v520] : Fin 1 → IVec S16 32) a x).toNat < S65536.size a := fun v520 k0_hw167 => k0_hw167

def k0_chk168 (v522 : IVec S16 32) : Prop :=
  (∀ a x, ((![v522] : Fin 1 → IVec S16 32) a x).toNat < S25600.size a)
theorem k0_idx168_inb : ∀ (v522 : IVec S16 32) (k0_hw168 : k0_chk168 v522), ∀ a x, ((![v522] : Fin 1 → IVec S16 32) a x).toNat < S25600.size a := fun v522 k0_hw168 => k0_hw168

def k0_chk169 (v525 : IVec S16 32) : Prop :=
  (∀ a x, ((![v525] : Fin 1 → IVec S16 32) a x).toNat < S65536.size a)
theorem k0_idx169_inb : ∀ (v525 : IVec S16 32) (k0_hw169 : k0_chk169 v525), ∀ a x, ((![v525] : Fin 1 → IVec S16 32) a x).toNat < S65536.size a := fun v525 k0_hw169 => k0_hw169

def k0_chk170 (v527 : IVec S16 32) : Prop :=
  (∀ a x, ((![v527] : Fin 1 → IVec S16 32) a x).toNat < S25600.size a)
theorem k0_idx170_inb : ∀ (v527 : IVec S16 32) (k0_hw170 : k0_chk170 v527), ∀ a x, ((![v527] : Fin 1 → IVec S16 32) a x).toNat < S25600.size a := fun v527 k0_hw170 => k0_hw170

def k0_chk171 (v530 : IVec S16 32) : Prop :=
  (∀ a x, ((![v530] : Fin 1 → IVec S16 32) a x).toNat < S65536.size a)
theorem k0_idx171_inb : ∀ (v530 : IVec S16 32) (k0_hw171 : k0_chk171 v530), ∀ a x, ((![v530] : Fin 1 → IVec S16 32) a x).toNat < S65536.size a := fun v530 k0_hw171 => k0_hw171

def k0_chk172 (v532 : IVec S16 32) : Prop :=
  (∀ a x, ((![v532] : Fin 1 → IVec S16 32) a x).toNat < S25600.size a)
theorem k0_idx172_inb : ∀ (v532 : IVec S16 32) (k0_hw172 : k0_chk172 v532), ∀ a x, ((![v532] : Fin 1 → IVec S16 32) a x).toNat < S25600.size a := fun v532 k0_hw172 => k0_hw172

def k0_chk173 (v535 : IVec S16 32) : Prop :=
  (∀ a x, ((![v535] : Fin 1 → IVec S16 32) a x).toNat < S65536.size a)
theorem k0_idx173_inb : ∀ (v535 : IVec S16 32) (k0_hw173 : k0_chk173 v535), ∀ a x, ((![v535] : Fin 1 → IVec S16 32) a x).toNat < S65536.size a := fun v535 k0_hw173 => k0_hw173

def k0_chk174 (v537 : IVec S16 32) : Prop :=
  (∀ a x, ((![v537] : Fin 1 → IVec S16 32) a x).toNat < S25600.size a)
theorem k0_idx174_inb : ∀ (v537 : IVec S16 32) (k0_hw174 : k0_chk174 v537), ∀ a x, ((![v537] : Fin 1 → IVec S16 32) a x).toNat < S25600.size a := fun v537 k0_hw174 => k0_hw174

def k0_chk175 (v540 : IVec S16 32) : Prop :=
  (∀ a x, ((![v540] : Fin 1 → IVec S16 32) a x).toNat < S65536.size a)
theorem k0_idx175_inb : ∀ (v540 : IVec S16 32) (k0_hw175 : k0_chk175 v540), ∀ a x, ((![v540] : Fin 1 → IVec S16 32) a x).toNat < S65536.size a := fun v540 k0_hw175 => k0_hw175

def k0_chk176 (v542 : IVec S16 32) : Prop :=
  (∀ a x, ((![v542] : Fin 1 → IVec S16 32) a x).toNat < S25600.size a)
theorem k0_idx176_inb : ∀ (v542 : IVec S16 32) (k0_hw176 : k0_chk176 v542), ∀ a x, ((![v542] : Fin 1 → IVec S16 32) a x).toNat < S25600.size a := fun v542 k0_hw176 => k0_hw176

def k0_chk177 (v545 : IVec S16 32) : Prop :=
  (∀ a x, ((![v545] : Fin 1 → IVec S16 32) a x).toNat < S65536.size a)
theorem k0_idx177_inb : ∀ (v545 : IVec S16 32) (k0_hw177 : k0_chk177 v545), ∀ a x, ((![v545] : Fin 1 → IVec S16 32) a x).toNat < S65536.size a := fun v545 k0_hw177 => k0_hw177

def k0_chk178 (v547 : IVec S16 32) : Prop :=
  (∀ a x, ((![v547] : Fin 1 → IVec S16 32) a x).toNat < S25600.size a)
theorem k0_idx178_inb : ∀ (v547 : IVec S16 32) (k0_hw178 : k0_chk178 v547), ∀ a x, ((![v547] : Fin 1 → IVec S16 32) a x).toNat < S25600.size a := fun v547 k0_hw178 => k0_hw178

def k0_chk179 (v550 : IVec S16 32) : Prop :=
  (∀ a x, ((![v550] : Fin 1 → IVec S16 32) a x).toNat < S65536.size a)
theorem k0_idx179_inb : ∀ (v550 : IVec S16 32) (k0_hw179 : k0_chk179 v550), ∀ a x, ((![v550] : Fin 1 → IVec S16 32) a x).toNat < S65536.size a := fun v550 k0_hw179 => k0_hw179

def k0_chk180 (v552 : IVec S16 32) : Prop :=
  (∀ a x, ((![v552] : Fin 1 → IVec S16 32) a x).toNat < S25600.size a)
theorem k0_idx180_inb : ∀ (v552 : IVec S16 32) (k0_hw180 : k0_chk180 v552), ∀ a x, ((![v552] : Fin 1 → IVec S16 32) a x).toNat < S25600.size a := fun v552 k0_hw180 => k0_hw180

def k0_chk181 (v555 : IVec S16 32) : Prop :=
  (∀ a x, ((![v555] : Fin 1 → IVec S16 32) a x).toNat < S65536.size a)
theorem k0_idx181_inb : ∀ (v555 : IVec S16 32) (k0_hw181 : k0_chk181 v555), ∀ a x, ((![v555] : Fin 1 → IVec S16 32) a x).toNat < S65536.size a := fun v555 k0_hw181 => k0_hw181

def k0_chk182 (v557 : IVec S16 32) : Prop :=
  (∀ a x, ((![v557] : Fin 1 → IVec S16 32) a x).toNat < S25600.size a)
theorem k0_idx182_inb : ∀ (v557 : IVec S16 32) (k0_hw182 : k0_chk182 v557), ∀ a x, ((![v557] : Fin 1 → IVec S16 32) a x).toNat < S25600.size a := fun v557 k0_hw182 => k0_hw182

def k0_chk183 (v560 : IVec S16 32) : Prop :=
  (∀ a x, ((![v560] : Fin 1 → IVec S16 32) a x).toNat < S65536.size a)
theorem k0_idx183_inb : ∀ (v560 : IVec S16 32) (k0_hw183 : k0_chk183 v560), ∀ a x, ((![v560] : Fin 1 → IVec S16 32) a x).toNat < S65536.size a := fun v560 k0_hw183 => k0_hw183

def k0_chk184 (v562 : IVec S16 32) : Prop :=
  (∀ a x, ((![v562] : Fin 1 → IVec S16 32) a x).toNat < S25600.size a)
theorem k0_idx184_inb : ∀ (v562 : IVec S16 32) (k0_hw184 : k0_chk184 v562), ∀ a x, ((![v562] : Fin 1 → IVec S16 32) a x).toNat < S25600.size a := fun v562 k0_hw184 => k0_hw184

def k0_chk185 (v565 : IVec S16 32) : Prop :=
  (∀ a x, ((![v565] : Fin 1 → IVec S16 32) a x).toNat < S65536.size a)
theorem k0_idx185_inb : ∀ (v565 : IVec S16 32) (k0_hw185 : k0_chk185 v565), ∀ a x, ((![v565] : Fin 1 → IVec S16 32) a x).toNat < S65536.size a := fun v565 k0_hw185 => k0_hw185

def k0_chk186 (v567 : IVec S16 32) : Prop :=
  (∀ a x, ((![v567] : Fin 1 → IVec S16 32) a x).toNat < S25600.size a)
theorem k0_idx186_inb : ∀ (v567 : IVec S16 32) (k0_hw186 : k0_chk186 v567), ∀ a x, ((![v567] : Fin 1 → IVec S16 32) a x).toNat < S25600.size a := fun v567 k0_hw186 => k0_hw186

def k0_chk187 (v570 : IVec S16 32) : Prop :=
  (∀ a x, ((![v570] : Fin 1 → IVec S16 32) a x).toNat < S65536.size a)
theorem k0_idx187_inb : ∀ (v570 : IVec S16 32) (k0_hw187 : k0_chk187 v570), ∀ a x, ((![v570] : Fin 1 → IVec S16 32) a x).toNat < S65536.size a := fun v570 k0_hw187 => k0_hw187

def k0_chk188 (v572 : IVec S16 32) : Prop :=
  (∀ a x, ((![v572] : Fin 1 → IVec S16 32) a x).toNat < S25600.size a)
theorem k0_idx188_inb : ∀ (v572 : IVec S16 32) (k0_hw188 : k0_chk188 v572), ∀ a x, ((![v572] : Fin 1 → IVec S16 32) a x).toNat < S25600.size a := fun v572 k0_hw188 => k0_hw188

def k0_chk189 (v575 : IVec S16 32) : Prop :=
  (∀ a x, ((![v575] : Fin 1 → IVec S16 32) a x).toNat < S65536.size a)
theorem k0_idx189_inb : ∀ (v575 : IVec S16 32) (k0_hw189 : k0_chk189 v575), ∀ a x, ((![v575] : Fin 1 → IVec S16 32) a x).toNat < S65536.size a := fun v575 k0_hw189 => k0_hw189

def k0_chk190 (v577 : IVec S16 32) : Prop :=
  (∀ a x, ((![v577] : Fin 1 → IVec S16 32) a x).toNat < S25600.size a)
theorem k0_idx190_inb : ∀ (v577 : IVec S16 32) (k0_hw190 : k0_chk190 v577), ∀ a x, ((![v577] : Fin 1 → IVec S16 32) a x).toNat < S25600.size a := fun v577 k0_hw190 => k0_hw190

def k0_chk191 (v580 : IVec S16 32) : Prop :=
  (∀ a x, ((![v580] : Fin 1 → IVec S16 32) a x).toNat < S65536.size a)
theorem k0_idx191_inb : ∀ (v580 : IVec S16 32) (k0_hw191 : k0_chk191 v580), ∀ a x, ((![v580] : Fin 1 → IVec S16 32) a x).toNat < S65536.size a := fun v580 k0_hw191 => k0_hw191

def k0_chk192 (v582 : IVec S16 32) : Prop :=
  (∀ a x, ((![v582] : Fin 1 → IVec S16 32) a x).toNat < S25600.size a)
theorem k0_idx192_inb : ∀ (v582 : IVec S16 32) (k0_hw192 : k0_chk192 v582), ∀ a x, ((![v582] : Fin 1 → IVec S16 32) a x).toNat < S25600.size a := fun v582 k0_hw192 => k0_hw192

def k0_chk193 (v585 : IVec S16 32) : Prop :=
  (∀ a x, ((![v585] : Fin 1 → IVec S16 32) a x).toNat < S65536.size a)
theorem k0_idx193_inb : ∀ (v585 : IVec S16 32) (k0_hw193 : k0_chk193 v585), ∀ a x, ((![v585] : Fin 1 → IVec S16 32) a x).toNat < S65536.size a := fun v585 k0_hw193 => k0_hw193

def k0_chk194 (v587 : IVec S16 32) : Prop :=
  (∀ a x, ((![v587] : Fin 1 → IVec S16 32) a x).toNat < S25600.size a)
theorem k0_idx194_inb : ∀ (v587 : IVec S16 32) (k0_hw194 : k0_chk194 v587), ∀ a x, ((![v587] : Fin 1 → IVec S16 32) a x).toNat < S25600.size a := fun v587 k0_hw194 => k0_hw194

def k0_chk195 (v590 : IVec S16 32) : Prop :=
  (∀ a x, ((![v590] : Fin 1 → IVec S16 32) a x).toNat < S65536.size a)
theorem k0_idx195_inb : ∀ (v590 : IVec S16 32) (k0_hw195 : k0_chk195 v590), ∀ a x, ((![v590] : Fin 1 → IVec S16 32) a x).toNat < S65536.size a := fun v590 k0_hw195 => k0_hw195

def k0_chk196 (v592 : IVec S16 32) : Prop :=
  (∀ a x, ((![v592] : Fin 1 → IVec S16 32) a x).toNat < S25600.size a)
theorem k0_idx196_inb : ∀ (v592 : IVec S16 32) (k0_hw196 : k0_chk196 v592), ∀ a x, ((![v592] : Fin 1 → IVec S16 32) a x).toNat < S25600.size a := fun v592 k0_hw196 => k0_hw196

def k0_chk197 (v595 : IVec S16 32) : Prop :=
  (∀ a x, ((![v595] : Fin 1 → IVec S16 32) a x).toNat < S65536.size a)
theorem k0_idx197_inb : ∀ (v595 : IVec S16 32) (k0_hw197 : k0_chk197 v595), ∀ a x, ((![v595] : Fin 1 → IVec S16 32) a x).toNat < S65536.size a := fun v595 k0_hw197 => k0_hw197

def k0_chk198 (v597 : IVec S16 32) : Prop :=
  (∀ a x, ((![v597] : Fin 1 → IVec S16 32) a x).toNat < S25600.size a)
theorem k0_idx198_inb : ∀ (v597 : IVec S16 32) (k0_hw198 : k0_chk198 v597), ∀ a x, ((![v597] : Fin 1 → IVec S16 32) a x).toNat < S25600.size a := fun v597 k0_hw198 => k0_hw198

def k0_chk199 (v600 : IVec S16 32) : Prop :=
  (∀ a x, ((![v600] : Fin 1 → IVec S16 32) a x).toNat < S65536.size a)
theorem k0_idx199_inb : ∀ (v600 : IVec S16 32) (k0_hw199 : k0_chk199 v600), ∀ a x, ((![v600] : Fin 1 → IVec S16 32) a x).toNat < S65536.size a := fun v600 k0_hw199 => k0_hw199

def k0_chk200 (v602 : IVec S16 32) : Prop :=
  (∀ a x, ((![v602] : Fin 1 → IVec S16 32) a x).toNat < S25600.size a)
theorem k0_idx200_inb : ∀ (v602 : IVec S16 32) (k0_hw200 : k0_chk200 v602), ∀ a x, ((![v602] : Fin 1 → IVec S16 32) a x).toNat < S25600.size a := fun v602 k0_hw200 => k0_hw200
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c25_i32_37 : BitVec 32 := 25#32
  let v277 : BitVec 32 := Scalar.muli v2 c25_i32_37
  ![v277.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048x64 : Shape := ⟨3, ![16, 2048, 64]⟩
abbrev S64 : Shape := ⟨1, ![64]⟩
abbrev S32768x64 : Shape := ⟨2, ![32768, 64]⟩
abbrev S32768x64x1 : Shape := ⟨3, ![32768, 64, 1]⟩
abbrev S1x1x25 : Shape := ⟨3, ![1, 1, 25]⟩
abbrev S32768x64x25 : Shape := ⟨3, ![32768, 64, 25]⟩
abbrev S_ : Shape := ⟨0, ![]⟩
abbrev S1 : Shape := ⟨1, ![1]⟩
abbrev S1x64x1 : Shape := ⟨3, ![1, 64, 1]⟩
abbrev S32768x25 : Shape := ⟨2, ![32768, 25]⟩
abbrev S16x2048x25 : Shape := ⟨3, ![16, 2048, 25]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x64, .i32⟩
  | .hbm, ⟨1, _⟩ => ⟨S64, .f32⟩
  | .hbm, ⟨2, _⟩ => ⟨S32768x64, .i32⟩
  | .hbm, ⟨3, _⟩ => ⟨S32768x64x1, .i32⟩
  | .hbm, ⟨4, _⟩ => ⟨S1x1x25, .i32⟩
  | .hbm, ⟨5, _⟩ => ⟨S32768x64x25, .i32⟩
  | .hbm, ⟨6, _⟩ => ⟨S32768x64x25, .i32⟩
  | .hbm, ⟨7, _⟩ => ⟨S32768x64x25, .i1⟩
  | .hbm, ⟨8, _⟩ => ⟨S32768x64x25, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S64, .f32⟩
  | .hbm, ⟨21, _⟩ => ⟨S64, .f32⟩
  | .hbm, ⟨22, _⟩ => ⟨S1x64x1, .f32⟩
  | .hbm, ⟨23, _⟩ => ⟨S32768x64x25, .f32⟩
  | .hbm, ⟨24, _⟩ => ⟨S32768x64x25, .f32⟩
  | .hbm, ⟨25, _⟩ => ⟨S_, .f32⟩
  | .hbm, ⟨26, _⟩ => ⟨S32768x25, .f32⟩
  | .hbm, ⟨27, _⟩ => ⟨S16x2048x25, .f32⟩
  | _, _ => ⟨S16x2048x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.Model.lean ====
/-
  The values the kernel computes, on plain functions. The sixty-four weights are combined lane by lane: four groups of
  sixteen, folded across the lanes by exchanging lanes whose numbers differ in one bit (`comb`), first for the maximum,
  then for the sum. An output word starts at zero and takes weight `s` whenever the `s`-th letter of its row is its
  column (`accum`). The module also has what a scatter and a store of part of a scratch leave, element by element.
-/
module

public import Idealize.ShloMosaic.Lib.SparseCore
public import Idealize.ShloMosaic.PureOps

@[expose] public section

noncomputable section

namespace Cert.Proof.Model

open Idealize.ShloMosaic

/-! ## Vectors -/

/-- The shape of a vector of `n` elements. -/
abbrev Vx (n : ℕ) : Shape := ⟨1, ![n]⟩

theorem size_Vx {n : ℕ} (a : Fin 1) : (Vx n).size a = n := by
  have : a = 0 := Subsingleton.elim _ _
  subst this; rfl

/-- The index of element `k`. -/
def mk1 {n : ℕ} (k : ℕ) (h : k < n) : (Vx n).Idx := fun a => ⟨k, (size_Vx (n := n) a).symm ▸ h⟩

@[simp] theorem mk1_val {n k : ℕ} (h : k < n) (a : Fin 1) : ((mk1 k h : (Vx n).Idx) a).val = k := rfl

theorem lt_of_idx {n : ℕ} (x : (Vx n).Idx) : (x 0).val < n := (x 0).isLt

theorem ext1 {n : ℕ} {x y : (Vx n).Idx} (h : (x 0).val = (y 0).val) : x = y := by
  funext a
  have : a = 0 := Subsingleton.elim _ _
  subst this; exact Fin.ext h

@[simp] theorem mk1_self {n : ℕ} (x : (Vx n).Idx) (h : (x 0).val < n) : (mk1 (x 0).val h : (Vx n).Idx) = x := ext1 rfl

/-- Word `k` of a vector of words, zero past its end. -/
def at0 {n : ℕ} (A : (Vx n).Idx → BitVec 32) (k : ℕ) : BitVec 32 := if h : k < n then A (mk1 k h) else 0

theorem at0_of_lt {n : ℕ} (A : (Vx n).Idx → BitVec 32) {k : ℕ} (h : k < n) : at0 A k = A (mk1 k h) := dif_pos h

/-! ## A scatter, element by element -/

section Scatter

variable {F : FTy → Type} [FloatOps F] {e : EltTy} {n d : ℕ}

/-- One lane's update of a scatter-add. -/
def scat (v : IVec (Vx d) 32) (w : Vec F (Vx d) e) (h : ∀ a x, ((![v] : Fin 1 → IVec (Vx d) 32) a x).toNat < (Vx n).size a)
    (g : Vec F (Vx n) e) (k : Fin d) : Vec F (Vx n) e :=
  fun j => if (∀ a, (j a).val = (idxAt ![v] h (Shape.ofLane k) a).val) then
    Elt.idxAdd e (g (idxAt ![v] h (Shape.ofLane k))) (w (Shape.ofLane k)) else g j

theorem storeIdx_eq (f : Vec F (Vx n) e) (v : IVec (Vx d) 32) (w : Vec F (Vx d) e)
    (h : ∀ a x, ((![v] : Fin 1 → IVec (Vx d) 32) a x).toNat < (Vx n).size a) :
    storeIdx f ![v] w (fun _ => 1#1) true h = (List.finRange d).foldl (scat v w h) f := rfl

theorem scat_hits (v : IVec (Vx d) 32) (h : ∀ a x, ((![v] : Fin 1 → IVec (Vx d) 32) a x).toNat < (Vx n).size a) (j : (Vx n).Idx) (x : (Vx d).Idx) :
    (∀ a, (j a).val = (idxAt ![v] h x a).val) ↔ (v x).toNat = (j 0).val := by
  constructor
  · intro hh; exact (hh 0).symm
  · intro hh a
    have : a = 0 := Subsingleton.elim _ _
    subst this; exact hh.symm

theorem foldl_miss (v : IVec (Vx d) 32) (w : Vec F (Vx d) e) (h) (j : (Vx n).Idx) :
    ∀ (l : List (Fin d)) (f : Vec F (Vx n) e), (∀ k ∈ l, (v (Shape.ofLane k)).toNat ≠ (j 0).val) → l.foldl (scat v w h) f j = f j
  | [], _, _ => rfl
  | k :: l, f, hl => by
    rw [List.foldl_cons, foldl_miss v w h j l _ fun k' hk' => hl k' (List.mem_cons_of_mem _ hk')]
    unfold scat
    rw [if_neg (by rw [scat_hits]; exact hl k List.mem_cons_self)]

theorem foldl_hit (v : IVec (Vx d) 32) (w : Vec F (Vx d) e) (h) (j : (Vx n).Idx) (k₀ : Fin d) (hk₀ : (v (Shape.ofLane k₀)).toNat = (j 0).val)
    (hinj : ∀ k, (v (Shape.ofLane k)).toNat = (j 0).val → k = k₀) :
    ∀ (l : List (Fin d)) (f : Vec F (Vx n) e), l.Nodup → k₀ ∈ l → l.foldl (scat v w h) f j = Elt.idxAdd e (f j) (w (Shape.ofLane k₀))
  | [], _, _, hm => absurd hm List.not_mem_nil
  | k :: l, f, hnd, hm => by
    rw [List.foldl_cons]
    by_cases hk : k = k₀
    · subst hk
      rw [foldl_miss v w h j l _ fun k' hk' e' => (List.nodup_cons.mp hnd).1 (hinj k' e' ▸ hk')]
      unfold scat
      rw [if_pos (by rw [scat_hits]; exact hk₀)]
      congr 2
      exact ext1 hk₀
    · rw [foldl_hit v w h j k₀ hk₀ hinj l _ (List.nodup_cons.mp hnd).2 ((List.mem_cons.mp hm).resolve_left fun e' => hk e'.symm)]
      congr 1
      unfold scat
      rw [if_neg (by rw [scat_hits]; exact fun e' => hk (hinj k e'))]

/-- An element no lane names keeps its value. -/
theorem storeIdx_miss (f : Vec F (Vx n) e) (v : IVec (Vx d) 32) (w : Vec F (Vx d) e) (h) (j : (Vx n).Idx)
    (hm : ∀ x, (v x).toNat ≠ (j 0).val) : storeIdx f ![v] w (fun _ => 1#1) true h j = f j := by
  rw [storeIdx_eq]; exact foldl_miss v w h j _ f fun k _ => hm _

/-- An element exactly one lane names takes that lane's addend. -/
theorem storeIdx_hit (f : Vec F (Vx n) e) (v : IVec (Vx d) 32) (w : Vec F (Vx d) e) (h) (j : (Vx n).Idx) (x : (Vx d).Idx)
    (hx : (v x).toNat = (j 0).val) (hinj : ∀ y, (v y).toNat = (j 0).val → y = x) :
    storeIdx f ![v] w (fun _ => 1#1) true h j = Elt.idxAdd e (f j) (w x) := by
  have hl : (Shape.ofLane (d := ![d]) (x 0) : (Vx d).Idx) = x := ext1 rfl
  rw [storeIdx_eq, foldl_hit v w h j (x 0) (by rw [hl]; exact hx) (fun k hk => ?_) _ f (List.nodup_finRange d) (List.mem_finRange _), hl]
  exact congrFun (hinj _ hk) 0

end Scatter

/-! ## Loads and stores of part of a scratch -/

section Part

variable {sig : RefSig} {κ : Kind} (Val : EltTy → Type) (b : Ref sig κ) (r : Rect b.ty.shape)

theorem read_part (f : b.ty.Contents Val) (x : r.shape.Idx) : ((Memref.whole b).access r).read Val f x = f (r.emb x) := rfl

theorem write_part (f : b.ty.Contents Val) (w : r.shape.Idx → Val b.ty.elt) (x : r.shape.Idx) :
    ((Memref.whole b).access r).write Val f w Finset.univ (r.emb x) = w x :=
  View.write_emb_of_mem (v := (Memref.whole b).access r) f w (Finset.mem_univ x)

theorem write_part_off (f : b.ty.Contents Val) (w : r.shape.Idx → Val b.ty.elt) (i : b.ty.shape.Idx) (h : ∀ x, r.emb x ≠ i) :
    ((Memref.whole b).access r).write Val f w Finset.univ i = f i := by
  refine View.write_of_not_mem (v := (Memref.whole b).access r) f w Finset.univ fun hm => ?_
  obtain ⟨x, -, hx⟩ := Finset.mem_map.mp hm
  exact h x hx

end Part

section PartVx

variable {α : Type} {n m : ℕ} (off : Fin 1 → ℕ) (h : ∀ a, off a + (Vx m).size a ≤ (Vx n).size a)

/-- Where word `x` of the part from `off` on lies. -/
theorem emb_part (x : (Vx m).Idx) : (((Rect.unit (s := Vx n) off (Vx m).size h).emb x) 0).val = off 0 + (x 0).val := by
  rw [Rect.emb_apply]
  show off 0 + 1 * (x 0).val = _
  rw [Nat.one_mul]

/-- What reads `w` through the part reads it at the part's words. -/
theorem part_in {g : (Vx n).Idx → α} {w : (Vx m).Idx → α} (h1 : ∀ x, g ((Rect.unit (s := Vx n) off (Vx m).size h).emb x) = w x)
    (i : (Vx n).Idx) (x : (Vx m).Idx) (hi : (i 0).val = off 0 + (x 0).val) : g i = w x := by
  rw [← h1 x]; congr 1; exact ext1 (hi.trans (emb_part off h x).symm)

/-- What agrees with `f` off the part agrees with it at the words outside. -/
theorem part_out {g f : (Vx n).Idx → α} (h2 : ∀ i, (∀ x, (Rect.unit (s := Vx n) off (Vx m).size h).emb x ≠ i) → g i = f i)
    (i : (Vx n).Idx) (hi : (i 0).val < off 0 ∨ off 0 + m ≤ (i 0).val) : g i = f i := by
  refine h2 i fun x hx => ?_
  have := emb_part off h x
  rw [hx] at this
  have := lt_of_idx (n := m) x
  omega

end PartVx

/-! ## Vectors by their lanes -/

/-- The vector whose lane `l` is `X l`. -/
def vec {α : Type} {n : ℕ} (X : Fin n → α) : (Vx n).Idx → α := fun x => X ⟨(x 0).val, lt_of_idx x⟩

/-- A gather reads the word its lane's index names. -/
theorem loadIdx_at {F : FTy → Type} {e : EltTy} {n m : ℕ} (x : Vec F (Vx n) e) (v : IVec (Vx m) 32)
    (h : ∀ a l, ((![v] : Fin 1 → IVec (Vx m) 32) a l).toNat < (Vx n).size a) (l : (Vx m).Idx) :
    loadIdx x ![v] h l = x (mk1 (v l).toNat (h 0 l)) := congrArg x (ext1 rfl)

/-! ## The weights -/

section Weights

variable {F : FTy → Type} [FloatOps F]

/-- The lane whose number differs from `l`'s in the bits of `k`. -/
def flipL (k : ℕ) (l : Fin 16) : Fin 16 := ⟨(l.val ^^^ k) % 16, Nat.mod_lt _ (by decide)⟩

/-- One exchange: every lane combined with its partner. -/
def stage {α : Type} (op : α → α → α) (k : ℕ) (X : Fin 16 → α) : Fin 16 → α := fun l => op (X l) (X (flipL k l))

/-- The four exchanges. -/
def comb {α : Type} (op : α → α → α) (X : Fin 16 → α) : Fin 16 → α := stage op 1 (stage op 2 (stage op 4 (stage op 8 X)))

/-- Element `l` of group `g` of sixty-four. -/
def cell (g : Fin 4) (l : Fin 16) : Fin 64 := ⟨16 * g.val + l.val, by omega⟩

variable (w : Fin 64 → F .f32)

/-- The greatest weight, as every lane has it. -/
def mxV : Fin 16 → F .f32 :=
  comb FloatOps.maximumf fun l => FloatOps.maximumf (FloatOps.maximumf (w (cell 0 l)) (w (cell 1 l))) (FloatOps.maximumf (w (cell 2 l)) (w (cell 3 l)))

/-- The exponential of a weight less the greatest one. -/
def eV (g : Fin 4) (l : Fin 16) : F .f32 := FloatOps.exp (FloatOps.subf (w (cell g l)) (mxV w l))

/-- The sum of the exponentials, as every lane has it. -/
def totV : Fin 16 → F .f32 :=
  comb FloatOps.addf fun l => FloatOps.addf (FloatOps.addf (FloatOps.addf (eV w 0 l) (eV w 1 l)) (eV w 2 l)) (eV w 3 l)

/-- One over the sum. -/
def invV (l : Fin 16) : F .f32 := FloatOps.divf (Scalar.ofBits (F := F) .f32 0x3F800000#32) (totV w l)

/-- The normalised weight of element `l` of group `g`. -/
def nwC (g : Fin 4) (l : Fin 16) : F .f32 := FloatOps.mulf (eV w g l) (invV w l)

/-- The normalised weight of row `s` of the alignment. -/
def nw (s : ℕ) : F .f32 := nwC w ⟨s / 16 % 4, Nat.mod_lt _ (by decide)⟩ ⟨s % 16, Nat.mod_lt _ (by decide)⟩

/-- The weights of a vector. -/
def wts (W : (Vx 64).Idx → F .f32) : Fin 64 → F .f32 := fun k => W (mk1 k.val k.isLt)

/-- Words `16 g` to `16 g + 15` of a vector replaced. -/
def put {α : Type} (W : (Vx 64).Idx → α) (g : ℕ) (X : Fin 16 → α) : (Vx 64).Idx → α :=
  fun x => if (x 0).val / 16 = g then X ⟨(x 0).val % 16, Nat.mod_lt _ (by decide)⟩ else W x

/-- The normalised weights as a vector. -/
def NW (W : (Vx 64).Idx → F .f32) : (Vx 64).Idx → F .f32 := fun x => nw (wts W) (x 0).val

/-- The four groups of normalised weights are all of them. -/
theorem put_NW (W : (Vx 64).Idx → F .f32) :
    put (put (put (put W 0 (nwC (wts W) 0)) 1 (nwC (wts W) 1)) 2 (nwC (wts W) 2)) 3 (nwC (wts W) 3) = NW W := by
  funext x
  have hx := lt_of_idx x
  have hg : (x 0).val / 16 < 4 := by omega
  unfold put NW nw
  have key : ∀ g : Fin 4, (x 0).val / 16 = g.val → (⟨(x 0).val / 16 % 4, Nat.mod_lt _ (by decide)⟩ : Fin 4) = g := by
    intro g h; exact Fin.ext (by show (x 0).val / 16 % 4 = _; omega)
  by_cases h3 : (x 0).val / 16 = 3
  · rw [if_pos h3, key 3 h3]
  by_cases h2 : (x 0).val / 16 = 2
  · rw [if_neg h3, if_pos h2, key 2 h2]
  by_cases h1 : (x 0).val / 16 = 1
  · rw [if_neg h3, if_neg h2, if_pos h1, key 1 h1]
  have h0 : (x 0).val / 16 = 0 := by omega
  rw [if_neg h3, if_neg h2, if_neg h1, if_pos h0, key 0 h0]

end Weights

/-! ## The accumulators -/

section Acc

variable {F : FTy → Type} [FloatOps F]

/-- Zero, as the kernel writes it. -/
def zero : F .f32 := Scalar.ofBits (F := F) .f32 0x00000000#32

/-- The accumulator of column `c` after `s` letters of its row. -/
def accum (q : ℕ → F .f32) (a : ℕ → BitVec 32) (c : ℕ) : ℕ → F .f32
  | 0 => zero
  | s + 1 => if (a s).toNat = c then FloatOps.idxAddf (accum q a c s) (q s) else accum q a c s

/-- The result: position `j / 25`, column `j % 25`. -/
def outV {n k : ℕ} (q : ℕ → F .f32) (A : (Vx n).Idx → BitVec 32) : (Vx k).Idx → F .f32 :=
  fun j => accum q (fun s => at0 A ((j 0).val / 25 * 64 + s)) ((j 0).val % 25) 64

/-- How many letters of row `p` are in after `b` blocks of sixteen rows and `s` steps of the next block. -/
def done (b s p : ℕ) : ℕ := if p / 16 < b then 64 else if p / 16 = b then s else 0

/-- The accumulators of a tile after `b` blocks and `s` steps of the next. -/
def partV (q : ℕ → F .f32) (A : (Vx 65536).Idx → BitVec 32) (b s : ℕ) : (Vx 25600).Idx → F .f32 :=
  fun j => accum q (fun s => at0 A ((j 0).val / 25 * 64 + s)) ((j 0).val % 25) (done b s ((j 0).val / 25))

theorem partV_zero (q : ℕ → F .f32) (A : (Vx 65536).Idx → BitVec 32) : partV q A 0 0 = fun _ => zero := by
  funext j; unfold partV done; simp [accum]

theorem partV_next (q : ℕ → F .f32) (A : (Vx 65536).Idx → BitVec 32) (b : ℕ) : partV q A b 64 = partV q A (b + 1) 0 := by
  funext j; unfold partV done
  congr 1
  split_ifs <;> first | rfl | omega

theorem partV_end (q : ℕ → F .f32) (A : (Vx 65536).Idx → BitVec 32) : partV q A 64 0 = outV q A := by
  funext j; unfold partV outV done
  have := lt_of_idx j
  rw [if_pos (by omega)]

/-- One accumulation step of block `b`: lane `x` adds weight `s` at the word its letter names in its row. -/
theorem partV_step (q : ℕ → F .f32) (A : (Vx 65536).Idx → BitVec 32) (b s : ℕ) (hs : s < 64)
    (hA : ∀ k, (at0 A k).toNat < 25)
    (v : IVec (Vx 16) 32) (w : Vec F (Vx 16) .f32) (h)
    (hv : ∀ x, (v x).toNat = (16 * b + (x 0).val) * 25 + (at0 A ((16 * b + (x 0).val) * 64 + s)).toNat) (hw : ∀ x, w x = q s) :
    storeIdx (F := F) (e := .f32) (partV q A b s) ![v] w (fun _ => 1#1) true h = partV q A b (s + 1) := by
  funext j
  have hne : ∀ x, (v x).toNat = (j 0).val → (j 0).val / 25 = 16 * b + (x 0).val ∧ (j 0).val % 25 = (at0 A ((16 * b + (x 0).val) * 64 + s)).toNat := by
    intro x hx
    have h1 := hv x
    have h2 := hA ((16 * b + (x 0).val) * 64 + s)
    omega
  by_cases hb : (j 0).val / 25 / 16 = b
  · have hx16 : (j 0).val / 25 % 16 < 16 := Nat.mod_lt _ (by decide)
    have hp : 16 * b + (j 0).val / 25 % 16 = (j 0).val / 25 := by omega
    have hd : done b s ((j 0).val / 25) = s := by unfold done; rw [if_neg (by omega), if_pos hb]
    have hd' : done b (s + 1) ((j 0).val / 25) = s + 1 := by unfold done; rw [if_neg (by omega), if_pos hb]
    by_cases hc : (at0 A ((j 0).val / 25 * 64 + s)).toNat = (j 0).val % 25
    · rw [storeIdx_hit (partV q A b s) v w h j (mk1 _ hx16) ?_ ?_]
      · show FloatOps.idxAddf (partV q A b s j) _ = _
        unfold partV
        rw [hd, hd', accum, if_pos hc, hw]
      · rw [hv]; simp only [mk1_val]; rw [hp, hc]; omega
      · intro y hy
        have := (hne y hy).1
        have hy16 := lt_of_idx y
        exact ext1 (by simp only [mk1_val]; omega)
    · rw [storeIdx_miss (partV q A b s) v w h j ?_]
      · unfold partV
        rw [hd, hd', accum, if_neg hc]
      · intro x hx
        obtain ⟨h1, h2⟩ := hne x hx
        rw [← h1] at h2
        exact hc h2.symm
  · rw [storeIdx_miss (partV q A b s) v w h j ?_]
    · unfold partV
      congr 1
      unfold done
      simp only [hb, if_false]
    · intro x hx
      have := (hne x hx).1
      have hx16 := lt_of_idx x
      omega

/-- A tile's result is its piece of the whole one. -/
theorem outV_piece {n k : ℕ} (q : ℕ → F .f32) (A : (Vx 65536).Idx → BitVec 32) (B : (Vx n).Idx → BitVec 32) (t : ℕ)
    (hAB : ∀ i, i < 65536 → at0 A i = at0 B (65536 * t + i)) (j : (Vx 25600).Idx) (j' : (Vx k).Idx) (hj : (j' 0).val = 25600 * t + (j 0).val) :
    outV q A j = outV q B j' := by
  unfold outV
  have hlt := lt_of_idx j
  have h1 : (j' 0).val % 25 = (j 0).val % 25 := by omega
  have h2 : (j' 0).val / 25 = 1024 * t + (j 0).val / 25 := by omega
  rw [h1, h2]
  have : ∀ m ≤ 64, accum q (fun s => at0 A ((j 0).val / 25 * 64 + s)) ((j 0).val % 25) m
      = accum q (fun s => at0 B ((1024 * t + (j 0).val / 25) * 64 + s)) ((j 0).val % 25) m := by
    intro m
    induction m with
    | zero => intro _; rfl
    | succ m ih =>
      intro hm
      rw [accum, accum, ih (by omega), hAB _ (by omega),
        show 65536 * t + ((j 0).val / 25 * 64 + m) = (1024 * t + (j 0).val / 25) * 64 + m by omega]
  exact this 64 le_rfl

end Acc

end Cert.Proof.Model
-- ==== Proof.KernelIdeal.Prog.lean ====
/-
  The kernel's body as a structured program. The printed body is one long list of statements: sixty-four copies of the
  step that spreads a weight over sixteen lanes, and sixty-four copies of the accumulation step inside the block loop.
  Here each repeated piece is written once (`bfly`, `repStep`, `accStep`), the repetitions are recursions over the step
  number, and `body_eq` states that the printed body is that program.
-/
module

public import proofs.«01_k».proof.Proof.Gen.KernelIdeal.Skeleton
public import Idealize.ShloMosaic.Lib.SparseCore.Quiescent

@[expose] public section

noncomputable section

namespace Cert.Proof.KernelIdeal

open Idealize.ShloMosaic Idealize.SL.Sem
open Cert.KernelIdeal Cert.KernelIdeal.Gen

variable {F : FTy → Type} [FloatOps F]

/-! ## The kernel's memrefs, as the launch passes them -/

/-- The letters, in the device's memory. -/
abbrev hA : Memref sig .scVector .hbm S2097152 .i32 := Memref.whole main_v0_scv
/-- The weights, in the device's memory. -/
abbrev hW : Memref sig .scVector .hbm S64 .f32 := Memref.whole main_arg1_scv
/-- The result, in the device's memory. -/
abbrev hO : Memref sig .scVector .hbm S819200 .f32 := Memref.whole main_v1_scv
/-- A tile's letters. -/
abbrev aL : Memref sig .scVector .vmem S65536 .i32 := Memref.whole cc0_scratch0
/-- A tile's accumulators. -/
abbrev aO : Memref sig .scVector .vmem S25600 .f32 := Memref.whole cc0_scratch1
/-- A tile's weights. -/
abbrev aW : Memref sig .scVector .vmem S64 .f32 := Memref.whole cc0_scratch2
/-- A tile's weights, each sixteen times. -/
abbrev aR : Memref sig .scVector .vmem S1024 .f32 := Memref.whole cc0_scratch3
/-- The sixteen words that an exchange of lanes goes through. -/
abbrev aX : Memref sig .scVector .vmem S16 .f32 := Memref.whole cc0_scratch4

/-- Programs of the vector subcore at grid coordinates `i`. -/
abbrev TP (F : FTy → Type) (i : grid0.Coords) (α : Type) : Type 1 :=
  Prog (TpuEff nD τ sig (Elt F) Λ₀ (.scVector ((i 0).castLE hcore0) ((i 1).castLE hsub0))) α

/-- The lane numbers 0 … 15. -/
abbrev lanes : IVec S16 32 := iota .scVector S16 32 [0] iota_S16_d0_w32_scVector
/-- The lane numbers, each with the bits of `k` flipped. -/
abbrev flip (k : BitVec 32) : IVec S16 32 := xori lanes (broadcast S16 k)

/-! ## The repeated pieces -/

/-- Put a vector into the sixteen-word scratch and gather it back at the lanes `v`. -/
def bfly (i : grid0.Coords) (v : IVec S16 32) (x : FVec F S16 .f32) : TP F i (Vec F S16 .f32) := do
  let _ : Vec F S16 .f32 ← Prog.lift (.load aX (Rect.unit (s := S16) ![0] S16.size inb_S16_S16_0).toLoadRect (View.loadsAt_vmem h_S16))
  Prog.lift (.store aX (Rect.unit (s := S16) ![0] S16.size inb_S16_S16_0) x Finset.univ (View.stores_vmem_bits_univ h_S16 rfl) (.inl rfl))
  have h : k0_chk1 v := (← Prog.lift (TpuEff.assume (k0_chk1 v) (k0_chk1.dec v))).down
  SparseCore.vectorLoadIdx aX ![v] (k0_idx1_inb v h) (View.loads_vmem h_S16)

/-- Load sixteen weights from word `o` on. -/
def loadW (i : grid0.Coords) (o : ℕ) (ho : ∀ a, (![o] : Fin 1 → ℕ) a + S16.size a ≤ S64.size a) : TP F i (Vec F S16 .f32) :=
  Prog.lift (.load aW (Rect.unit (s := S64) ![o] S16.size ho).toLoadRect (View.loadsAt_vmem h_S16))

/-- Store sixteen weights from word `o` on, after a load whose value is not used. -/
def storeW (i : grid0.Coords) (o : ℕ) (ho : ∀ a, (![o] : Fin 1 → ℕ) a + S16.size a ≤ S64.size a) (x : FVec F S16 .f32) : TP F i PUnit := do
  let _ : Vec F S16 .f32 ← Prog.lift (.load aW (Rect.unit (s := S64) ![o] S16.size ho).toLoadRect (View.loadsAt_vmem h_S16))
  Prog.lift (.store aW (Rect.unit (s := S64) ![o] S16.size ho) x Finset.univ (View.stores_vmem_bits_univ h_S16 rfl) (.inl rfl))

/-- The softmax of the sixty-four weights, in place. -/
def softProg (i : grid0.Coords) : TP F i PUnit := do
  let w0 : Vec F S16 .f32 ← loadW i 0 inb_S64_S16_0
  let w1 : Vec F S16 .f32 ← loadW i 16 inb_S64_S16_16
  let w2 : Vec F S16 .f32 ← loadW i 32 inb_S64_S16_32
  let w3 : Vec F S16 .f32 ← loadW i 48 inb_S64_S16_48
  let x0 : FVec F S16 .f32 := maximumf (maximumf w0 w1) (maximumf w2 w3)
  let g1 : Vec F S16 .f32 ← bfly i (flip 8#32) x0
  let x1 : FVec F S16 .f32 := maximumf x0 g1
  let g2 : Vec F S16 .f32 ← bfly i (flip 4#32) x1
  let x2 : FVec F S16 .f32 := maximumf x1 g2
  let g3 : Vec F S16 .f32 ← bfly i (flip 2#32) x2
  let x3 : FVec F S16 .f32 := maximumf x2 g3
  let g4 : Vec F S16 .f32 ← bfly i (flip 1#32) x3
  let mx : FVec F S16 .f32 := maximumf x3 g4
  let e0 : FVec F S16 .f32 := exp (subf w0 mx)
  let e1 : FVec F S16 .f32 := exp (subf w1 mx)
  let e2 : FVec F S16 .f32 := exp (subf w2 mx)
  let e3 : FVec F S16 .f32 := exp (subf w3 mx)
  let t0 : FVec F S16 .f32 := addf (addf (addf e0 e1) e2) e3
  let s1 : Vec F S16 .f32 ← bfly i (flip 8#32) t0
  let t1 : FVec F S16 .f32 := addf t0 s1
  let s2 : Vec F S16 .f32 ← bfly i (flip 4#32) t1
  let t2 : FVec F S16 .f32 := addf t1 s2
  let s3 : Vec F S16 .f32 ← bfly i (flip 2#32) t2
  let t3 : FVec F S16 .f32 := addf t2 s3
  let s4 : Vec F S16 .f32 ← bfly i (flip 1#32) t3
  let inv : FVec F S16 .f32 := divf (broadcast S16 (Scalar.ofBits (F := F) .f32 0x3F800000#32)) (addf t3 s4)
  storeW i 0 inb_S64_S16_0 (mulf e0 inv)
  storeW i 16 inb_S64_S16_16 (mulf e1 inv)
  storeW i 32 inb_S64_S16_32 (mulf e2 inv)
  storeW i 48 inb_S64_S16_48 (mulf e3 inv)

theorem inb_of {n s : ℕ} (h : s + (n + 1) ≤ 64) : ∀ a, (![16 * s] : Fin 1 → ℕ) a + S16.size a ≤ S1024.size a := by
  intro a; fin_cases a; show 16 * s + 16 ≤ 1024; omega
theorem next_of {n s : ℕ} (h : s + (n + 1) ≤ 64) : s + 1 + n ≤ 64 := by omega

/-- Spread weight `s` over the sixteen words from `16 * s` on. -/
def repStep (i : grid0.Coords) (s : ℕ) (hs : ∀ a, (![16 * s] : Fin 1 → ℕ) a + S16.size a ≤ S1024.size a) : TP F i PUnit := do
  have v : IVec S16 32 := broadcast S16 (BitVec.ofNat 32 s)
  have h : k0_chk9 v := (← Prog.lift (TpuEff.assume (k0_chk9 v) (k0_chk9.dec v))).down
  let w : Vec F S16 .f32 ← SparseCore.vectorLoadIdx aW ![v] (k0_idx9_inb v h) (View.loads_vmem h_S64)
  let _ : Vec F S16 .f32 ← Prog.lift (.load aR (Rect.unit (s := S1024) ![16 * s] S16.size hs).toLoadRect (View.loadsAt_vmem h_S16))
  Prog.lift (.store aR (Rect.unit (s := S1024) ![16 * s] S16.size hs) w Finset.univ (View.stores_vmem_bits_univ h_S16 rfl) (.inl rfl))

/-- `n` such steps, from weight `s` on. -/
def repSteps (i : grid0.Coords) : (n s : ℕ) → s + n ≤ 64 → TP F i PUnit
  | 0, _, _ => pure ⟨⟩
  | n + 1, s, h => do
    repStep i s (inb_of h)
    repSteps i n (s + 1) (next_of h)

/-- Zero the sixteen accumulators of trip `k`. -/
def zeroBody (i : grid0.Coords) (k : Fin k0_t1_loop.trips) (_ : Unit) : TP F i Unit := do
  let _ : Vec F S16 .f32 ← Prog.lift (.load aO (Rect.unit (s := S25600) (k0_off2 k) S16.size (k0_off2_inb k)).toLoadRect (View.loadsAt_vmem h_S16))
  Prog.lift (.store aO (Rect.unit (s := S25600) (k0_off2 k) S16.size (k0_off2_inb k)) (broadcast S16 (Scalar.ofBits (F := F) .f32 0x00000000#32)) Finset.univ (View.stores_vmem_bits_univ h_S16 rfl) (.inl rfl))
  pure ⟨⟩

/-- One accumulation step: gather sixteen letters at `va + s`, and add weight `s` to the words `vo` plus the letter. -/
def accStep (i : grid0.Coords) (va vo : IVec S16 32) (s : ℕ)
    (hs : ∀ a, (![16 * s] : Fin 1 → ℕ) a + S16.size a ≤ S1024.size a) : TP F i PUnit := do
  have v : IVec S16 32 := addi va (broadcast S16 (BitVec.ofNat 32 s))
  have h : k0_chk73 v := (← Prog.lift (TpuEff.assume (k0_chk73 v) (k0_chk73.dec v))).down
  let c : Vec F S16 .i32 ← SparseCore.vectorLoadIdx aL ![v] (k0_idx73_inb v h) (View.loads_vmem h_S65536)
  have v' : IVec S16 32 := addi vo c
  have h' : k0_chk74 v' := (← Prog.lift (TpuEff.assume (k0_chk74 v') (k0_chk74.dec v'))).down
  let w : Vec F S16 .f32 ← Prog.lift (.load aR (Rect.unit (s := S1024) ![16 * s] S16.size hs).toLoadRect (View.loadsAt_vmem h_S16))
  SparseCore.vectorStoreIdx aO ![v'] w (fun _ => 1#1) true (k0_idx74_inb v' h') (View.stores_vmem_bits_univ h_S25600 rfl)

/-- `n` such steps, from step `s` on. -/
def accSteps (i : grid0.Coords) (va vo : IVec S16 32) : (n s : ℕ) → s + n ≤ 64 → TP F i PUnit
  | 0, _, _ => pure ⟨⟩
  | n + 1, s, h => do
    accStep i va vo s (inb_of h)
    accSteps i va vo n (s + 1) (next_of h)

/-- Where block `b`'s sixteen rows of letters start, lane by lane. -/
abbrev vaOf (b : Fin k0_t2_loop.trips) : IVec S16 32 :=
  addi (muli lanes (broadcast S16 64#32)) (broadcast S16 (Scalar.muli (Scf.iv 0#32 1#32 b) 1024#32))
/-- Where block `b`'s sixteen rows of accumulators start, lane by lane. -/
abbrev voOf (b : Fin k0_t2_loop.trips) : IVec S16 32 :=
  addi (muli lanes (broadcast S16 25#32)) (broadcast S16 (Scalar.muli (Scf.iv 0#32 1#32 b) 400#32))

/-- The sixty-four accumulation steps of block `b`. -/
def accBody (i : grid0.Coords) (b : Fin k0_t2_loop.trips) (_ : Unit) : TP F i Unit :=
  accSteps i (vaOf b) (voOf b) 64 0 (Nat.le_refl _)

/-! ## The whole body -/

abbrev srcK (i : grid0.Coords) : Memref sig .scVector .hbm S65536 .i32 :=
  (hA).slice (Rect.unit (s := S2097152) (k0_off1 i) S65536.size (k0_off1_inb i)) (fun _ => rfl)
abbrev dstK (i : grid0.Coords) : Memref sig .scVector .hbm S25600 .f32 :=
  (hO).slice (Rect.unit (s := S819200) (k0_off4 i) S25600.size (k0_off4_inb i)) (fun _ => rfl)

/-- The weights and the letters on their way in, the weights waited for. -/
def fetchProg (i : grid0.Coords) : TP F i PUnit := do
  Prog.lift (.enqueueDma (srcK i) (.here aL) (.dma cc0_scratch5.sem) (View.wordExact_bits rfl) (Memref.isWhole_whole _).wordExact ⟨Or.inl rfl, trivial⟩)
  Prog.lift (.enqueueDma hW (.here aW) (.dma cc0_scoped0.sem) (Memref.isWhole_whole _).wordExact (Memref.isWhole_whole _).wordExact ⟨Or.inl rfl, trivial⟩)
  Prog.lift (.waitDma2 cc0_scoped0.sem hW aW (Memref.isWhole_whole _).wordExact (Memref.isWhole_whole _).wordExact)

/-- The letters waited for. -/
def arriveProg (i : grid0.Coords) : TP F i PUnit :=
  Prog.lift (.waitDma2 cc0_scratch5.sem ((hA).slice (Rect.unit (s := S2097152) (k0_off3 i) S65536.size (k0_off3_inb i)) (fun _ => rfl)) aL
    (View.wordExact_bits rfl) (Memref.isWhole_whole _).wordExact)

/-- The accumulators written out. -/
def outProg (i : grid0.Coords) : TP F i PUnit := do
  Prog.lift (.enqueueDma aO (.here (dstK i)) (.dma cc0_scoped1.sem) (Memref.isWhole_whole _).wordExact (View.wordExact_bits rfl) ⟨Or.inl rfl, trivial⟩)
  Prog.lift (.waitDma2 cc0_scoped1.sem aO (dstK i) (Memref.isWhole_whole _).wordExact (View.wordExact_bits rfl))

/-- One tile's program. -/
def tileProg (i : grid0.Coords) : TP F i PUnit := do
  fetchProg i
  softProg i
  repSteps i 64 0 (Nat.le_refl _)
  Scf.Loop.for k0_t1_loop k0_t1_ok ⟨⟩ (zeroBody i)
  arriveProg i
  Scf.Loop.for k0_t2_loop k0_t2_ok ⟨⟩ (accBody i)
  outProg i

set_option maxRecDepth 100000 in
set_option maxHeartbeats 4000000 in
/-- The block loop's printed body is the sixty-four steps. -/
theorem t2_eq (i : grid0.Coords) :
    k0_t2_body (F := F) i hA (Memref.isWhole_whole _) hW (Memref.isWhole_whole _) hO (Memref.isWhole_whole _)
        aL (Memref.isWhole_whole _) aO (Memref.isWhole_whole _) aW (Memref.isWhole_whole _) aR (Memref.isWhole_whole _) aX (Memref.isWhole_whole _)
        cc0_scratch5 cc0_scoped0 cc0_scoped1 k0_pay95 k0_pay96 0#32 1#32
      = accBody i := rfl

/-- The zeroing and the arrival of the letters, with the values the printed text hands on to the block loop. -/
def zeroProg (i : grid0.Coords) : TP F i (Σ' (_ : IVec S16 32) (_ : IVec S16 32) (_ : BitVec 32), BitVec 32) := do
  Scf.Loop.for k0_t1_loop k0_t1_ok ⟨⟩ (zeroBody i)
  arriveProg i
  pure ⟨k0_pay95, k0_pay96, 0#32, 1#32⟩

/-- The block loop on the values handed on, and the write-out. -/
def blocksProg (i : grid0.Coords) (r : Σ' (_ : IVec S16 32) (_ : IVec S16 32) (_ : BitVec 32), BitVec 32) : TP F i PUnit := do
  Scf.Loop.for k0_t2_loop k0_t2_ok ⟨⟩ (k0_t2_body i hA (Memref.isWhole_whole _) hW (Memref.isWhole_whole _) hO (Memref.isWhole_whole _)
        aL (Memref.isWhole_whole _) aO (Memref.isWhole_whole _) aW (Memref.isWhole_whole _) aR (Memref.isWhole_whole _) aX (Memref.isWhole_whole _)
        cc0_scratch5 cc0_scoped0 cc0_scoped1 r.1 r.2.1 r.2.2.1 r.2.2.2)
  outProg i

set_option maxRecDepth 100000 in
set_option maxHeartbeats 4000000 in
theorem skel_eq (i : grid0.Coords) :
    cc0__pwm_body_skel (F := F) i hA (Memref.isWhole_whole _) hW (Memref.isWhole_whole _) hO (Memref.isWhole_whole _)
        aL (Memref.isWhole_whole _) aO (Memref.isWhole_whole _) aW (Memref.isWhole_whole _) aR (Memref.isWhole_whole _) aX (Memref.isWhole_whole _)
        cc0_scratch5 cc0_scoped0 cc0_scoped1
      = (fetchProg i >>= fun _ => softProg i >>= fun _ => repSteps i 64 0 (Nat.le_refl _) >>= fun _ => zeroProg i >>= blocksProg i) := rfl

/-- The printed body is the structured program. -/
theorem body_eq (i : grid0.Coords) :
    cc0__pwm_body (F := F) i hA (Memref.isWhole_whole _) hW (Memref.isWhole_whole _) hO (Memref.isWhole_whole _)
        aL (Memref.isWhole_whole _) aO (Memref.isWhole_whole _) aW (Memref.isWhole_whole _) aR (Memref.isWhole_whole _) aX (Memref.isWhole_whole _)
        cc0_scratch5 cc0_scoped0 cc0_scoped1
      = tileProg i := by
  rw [cc0__pwm_body_eq_skeleton, skel_eq]
  unfold tileProg zeroProg blocksProg
  simp only [bind_assoc, pure_bind, t2_eq]

end Cert.Proof.KernelIdeal
-- ==== Proof.KernelIdeal.Setup.lean ====
/-
  The program as the launch theorem sees it, and the resources its proof runs over: the handshakes' rounds and the
  transfers' counters. The declarations follow the library's worked examples of a one-call SparseCore launch.
-/
module

public import proofs.«01_k».proof.Proof.Model
public import proofs.«01_k».proof.Proof.KernelIdeal.Prog
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources of the proof. -/
abbrev MM (F : FTy → Type) := MT nD τ sig (HIx 1) (Elt F) ℕ UU ℕ

abbrev EH : Emb UH (MM F) := embL

abbrev cV (L : grid0.Coords) : Fin τ.nSC := (L 0).castLE hcore0
abbrev jV (L : grid0.Coords) : Fin τ.nSub := (L 1).castLE hsub0
/-- The thread of the tile at grid coordinates `L` of device `d`. -/
abbrev th (d : Dev nD) (L : grid0.Coords) : Thread nD τ := V d (cV L) (jV L)

end Cert.Proof.KernelIdeal
-- ==== Proof.KernelIdeal.Steps.lean ====
/-
  What each piece of a tile's program does to the tile's own scratches, as rules for the piece at the head of a program.
-/
module

public import proofs.«01_k».proof.Proof.KernelIdeal.Setup

@[expose] public section

noncomputable section

namespace Cert.Proof.KernelIdeal

open Cert.KernelIdeal Cert.KernelIdeal.Gen
open Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (i : grid0.Coords)

/-! ## The scratches held whole -/

abbrev pL (f : (Vx 65536).Idx → BitVec 32) : sProp (MM F) := (th d i).loc cc0_scratch0 ↦{fullShare} f
abbrev pO (f : (Vx 25600).Idx → F .f32) : sProp (MM F) := (th d i).loc cc0_scratch1 ↦{fullShare} f
abbrev pW (f : (Vx 64).Idx → F .f32) : sProp (MM F) := (th d i).loc cc0_scratch2 ↦{fullShare} f
abbrev pR (f : (Vx 1024).Idx → F .f32) : sProp (MM F) := (th d i).loc cc0_scratch3 ↦{fullShare} f
abbrev pX (f : (Vx 16).Idx → F .f32) : sProp (MM F) := (th d i).loc cc0_scratch4 ↦{fullShare} f

/-- Running a tile's program. -/
abbrev run {α : Type} (p : TP F i α) (Q : α → sProp (MM F)) : sProp (MM F) :=
  wp frame (wpE (defs₀ (F := F)) 𝒱₀ (th d i) none) Set.univ p Q

variable {β : Type} {Q : β → sProp (MM F)}

/-! ## The exchange through the sixteen-word scratch -/

theorem flip_toNat (k : ℕ) (hk : k < 16) (x : (Vx 16).Idx) :
    (flip (BitVec.ofNat 32 k) x).toNat = (flipL k ⟨(x 0).val, lt_of_idx x⟩).val := by
  have hx := lt_of_idx x
  show (BitVec.ofNat 32 (0 * 16 + (x 0).val) ^^^ BitVec.ofNat 32 k).toNat = ((x 0).val ^^^ k) % 16
  have h16 : (x 0).val ^^^ k < 2 ^ 4 := Nat.xor_lt_two_pow (by omega) (by omega)
  rw [BitVec.toNat_xor, BitVec.toNat_ofNat, BitVec.toNat_ofNat, Nat.mod_eq_of_lt (by omega), Nat.mod_eq_of_lt (by omega), Nat.mod_eq_of_lt (by omega : _ < 16)]
  simp

theorem flip_ok (k : ℕ) (hk : k < 16) : k0_chk1 (flip (BitVec.ofNat 32 k)) := by
  intro a x
  have : a = 0 := Subsingleton.elim _ _
  subst this
  show (flip (BitVec.ofNat 32 k) x).toNat < 16
  rw [flip_toNat k hk]; exact Fin.isLt _

/-- The exchange leaves the vector in the scratch and gives every lane its partner's element. -/
theorem wp_bfly (k : ℕ) (hk : k < 16) (X : Fin 16 → F .f32) (kk : Vec F S16 .f32 → TP F i β) :
    iprop(∃ f, pX d i f) ⊢ iprop(((∃ f, pX d i f) -∗ run d i (kk (vec fun l => X (flipL k l))) Q)
      -∗ run d i (bfly i (flip (BitVec.ofNat 32 k)) (vec X) >>= kk) Q) := by
  unfold bfly
  simp only [Prog.lift, Prog.bind_op, Prog.bind_ret, bind_assoc]
  iintro ⟨%f, H⟩ Hk
  iapply (wp_load 𝒱₀ (th d i) none Set.univ (m := aX) (S := Finset.univ) (Finset.subset_univ _)) $$ H
  iintro H
  iapply (wp_store 𝒱₀ (th d i) none Set.univ (m := aX) (r := Rect.unit (s := S16) ![0] S16.size inb_S16_S16_0) (S := Finset.univ) (f := f) (Finset.subset_univ _)) $$ H
  iintro H
  rw [wp_assume_of 𝒱₀ (th d i) none Set.univ (flip_ok k hk)]
  iapply (SparseCore.wp_vectorLoadIdx 𝒱₀ (th d i) none Set.univ (base := aX) (S := Finset.univ) (Finset.subset_univ _)) $$ H
  iintro H
  have e : ((aX).access (Rect.unit (s := S16) ![0] S16.size inb_S16_S16_0)).write (Elt F) f (vec X) Finset.univ = vec X := by
    funext x
    exact part_in (n := 16) (m := 16) ![0] inb_S16_S16_0 (write_part (Elt F) cc0_scratch4 _ f (vec X)) x x (Nat.zero_add _).symm
  rw [show ∀ g, ((aX).access (Rect.whole S16)).read (Elt F) g = g from Memref.read_access_whole (Elt F) cc0_scratch4, e]
  have e' : loadIdx (F := F) (e := .f32) (vec X) ![flip (BitVec.ofNat 32 k)] (k0_idx1_inb _ (flip_ok k hk)) = vec fun l => X (flipL k l) := by
    funext x
    rw [loadIdx_at]
    exact congrArg X (Fin.ext (flip_toNat k hk x))
  rw [e']
  iapply Hk
  iexists _; iexact H

/-! ## The softmax of the weights -/

theorem wp_loadW (o : ℕ) (ho : ∀ a, (![o] : Fin 1 → ℕ) a + S16.size a ≤ S64.size a) (g : Fin 4) (hg : o = 16 * g.val)
    (W : (Vx 64).Idx → F .f32) (kk : Vec F S16 .f32 → TP F i β) :
    pW d i W ⊢ iprop((pW d i W -∗ run d i (kk (vec fun l => wts W (cell g l))) Q) -∗ run d i (loadW i o ho >>= kk) Q) := by
  unfold loadW
  simp only [Prog.lift, Prog.bind_op, Prog.bind_ret]
  iintro H Hk
  iapply (wp_load_rect 𝒱₀ (th d i) none Set.univ (m := aW) (r := Rect.unit (s := S64) ![o] S16.size ho) (S := Finset.univ) (f := W) (Finset.subset_univ _)) $$ H
  iintro H
  have e : ((aW).access (Rect.unit (s := S64) ![o] S16.size ho)).read (Elt F) W = vec fun l => wts W (cell g l) := by
    funext x
    rw [read_part]
    refine congrArg W (ext1 ?_)
    rw [emb_part (n := 64) (m := 16)]
    exact congrArg (· + (x 0).val) hg
  rw [e]
  iapply Hk; iexact H

theorem wp_storeW (o : ℕ) (ho : ∀ a, (![o] : Fin 1 → ℕ) a + S16.size a ≤ S64.size a) (g : ℕ) (hg : o = 16 * g)
    (W : (Vx 64).Idx → F .f32) (X : Fin 16 → F .f32) (kk : PUnit → TP F i β) :
    pW d i W ⊢ iprop((pW d i (put W g X) -∗ run d i (kk ⟨⟩) Q) -∗ run d i (storeW i o ho (vec X) >>= kk) Q) := by
  unfold storeW
  simp only [Prog.lift, Prog.bind_op, Prog.bind_ret]
  iintro H Hk
  iapply (wp_load 𝒱₀ (th d i) none Set.univ (m := aW) (S := Finset.univ) (Finset.subset_univ _)) $$ H
  iintro H
  iapply (wp_store 𝒱₀ (th d i) none Set.univ (m := aW) (r := Rect.unit (s := S64) ![o] S16.size ho) (S := Finset.univ) (f := W) (Finset.subset_univ _)) $$ H
  iintro H
  have e : ((aW).access (Rect.unit (s := S64) ![o] S16.size ho)).write (Elt F) W (vec X) Finset.univ = put W g X := by
    funext x
    unfold put
    have hx := lt_of_idx x
    by_cases hc : (x 0).val / 16 = g
    · rw [if_pos hc]
      refine part_in (n := 64) (m := 16) ![o] ho (write_part (Elt F) cc0_scratch2 _ W (vec X)) x (mk1 ((x 0).val % 16) (by omega)) ?_
      show (x 0).val = o + (x 0).val % 16
      omega
    · rw [if_neg hc]
      refine part_out (n := 64) (m := 16) ![o] ho (write_part_off (Elt F) cc0_scratch2 _ W (vec X)) x ?_
      show (x 0).val < o ∨ o + 16 ≤ (x 0).val
      omega
  rw [e]
  iapply Hk; iexact H

theorem max_vec (X Y : Fin 16 → F .f32) : maximumf (s := S16) (vec X) (vec Y) = vec fun l => FloatOps.maximumf (X l) (Y l) := rfl
theorem add_vec (X Y : Fin 16 → F .f32) : addf (s := S16) (vec X) (vec Y) = vec fun l => FloatOps.addf (X l) (Y l) := rfl
theorem sub_vec (X Y : Fin 16 → F .f32) : subf (s := S16) (vec X) (vec Y) = vec fun l => FloatOps.subf (X l) (Y l) := rfl
theorem mul_vec (X Y : Fin 16 → F .f32) : mulf (s := S16) (vec X) (vec Y) = vec fun l => FloatOps.mulf (X l) (Y l) := rfl
theorem exp_vec (X : Fin 16 → F .f32) : exp (s := S16) (vec X) = vec fun l => FloatOps.exp (X l) := rfl
theorem div_vec (c : F .f32) (Y : Fin 16 → F .f32) : divf (s := S16) (broadcast S16 c) (vec Y) = vec fun l => FloatOps.divf c (Y l) := rfl

/-- The softmax replaces the weights by the normalised ones. -/
theorem wp_softProg (W : (Vx 64).Idx → F .f32) (kk : PUnit → TP F i β) :
    iprop(pW d i W ∗ ∃ f, pX d i f) ⊢ iprop(((pW d i (NW W) ∗ ∃ f, pX d i f) -∗ run d i (kk ⟨⟩) Q) -∗ run d i (softProg i >>= kk) Q) := by
  unfold softProg
  simp only [bind_assoc]
  iintro ⟨HW, HX⟩ Hk
  iapply (wp_loadW d i 0 _ 0 rfl W) $$ HW
  iintro HW
  iapply (wp_loadW d i 16 _ 1 rfl W) $$ HW
  iintro HW
  iapply (wp_loadW d i 32 _ 2 rfl W) $$ HW
  iintro HW
  iapply (wp_loadW d i 48 _ 3 rfl W) $$ HW
  iintro HW
  simp only [max_vec]
  iapply (wp_bfly d i 8 (by decide)) $$ HX
  iintro HX
  simp only [max_vec]
  iapply (wp_bfly d i 4 (by decide)) $$ HX
  iintro HX
  simp only [max_vec]
  iapply (wp_bfly d i 2 (by decide)) $$ HX
  iintro HX
  simp only [max_vec]
  iapply (wp_bfly d i 1 (by decide)) $$ HX
  iintro HX
  simp only [max_vec, sub_vec, exp_vec, add_vec]
  iapply (wp_bfly d i 8 (by decide)) $$ HX
  iintro HX
  simp only [add_vec]
  iapply (wp_bfly d i 4 (by decide)) $$ HX
  iintro HX
  simp only [add_vec]
  iapply (wp_bfly d i 2 (by decide)) $$ HX
  iintro HX
  simp only [add_vec]
  iapply (wp_bfly d i 1 (by decide)) $$ HX
  iintro HX
  simp only [add_vec, div_vec, mul_vec]
  iapply (wp_storeW d i 0 _ 0 rfl W (nwC (wts W) 0)) $$ HW
  iintro HW
  iapply (wp_storeW d i 16 _ 1 rfl _ (nwC (wts W) 1)) $$ HW
  iintro HW
  iapply (wp_storeW d i 32 _ 2 rfl _ (nwC (wts W) 2)) $$ HW
  iintro HW
  iapply (wp_storeW d i 48 _ 3 rfl _ (nwC (wts W) 3)) $$ HW
  iintro HW
  rw [put_NW]
  iapply Hk
  isplitl [HW] <;> iassumption

/-! ## The weights spread -/

/-- The first `s` weights each fill sixteen words. -/
def spread (q : ℕ → F .f32) (s : ℕ) (f : (Vx 1024).Idx → F .f32) : Prop := ∀ j, (j 0).val < 16 * s → f j = q ((j 0).val / 16)

theorem chk9_ok (s : ℕ) (hs : s < 64) : k0_chk9 (broadcast S16 (BitVec.ofNat 32 s)) := by
  intro a x
  have : a = 0 := Subsingleton.elim _ _
  subst this
  show (BitVec.ofNat 32 s).toNat < 64
  rw [BitVec.toNat_ofNat]; omega

theorem wp_repStep (s : ℕ) (hs64 : s < 64) (hs : ∀ a, (![16 * s] : Fin 1 → ℕ) a + S16.size a ≤ S1024.size a)
    (W : (Vx 64).Idx → F .f32) (kk : PUnit → TP F i β) :
    iprop(pW d i (NW W) ∗ ∃ f, ⌜spread (nw (wts W)) s f⌝ ∗ pR d i f)
      ⊢ iprop(((pW d i (NW W) ∗ ∃ f, ⌜spread (nw (wts W)) (s + 1) f⌝ ∗ pR d i f) -∗ run d i (kk ⟨⟩) Q) -∗ run d i (repStep i s hs >>= kk) Q) := by
  unfold repStep
  simp only [Prog.lift, Prog.bind_op, Prog.bind_ret, bind_assoc]
  iintro ⟨HW, ⟨%f, %hf, H⟩⟩ Hk
  unfold run
  rw [wp_assume_of 𝒱₀ (th d i) none Set.univ (chk9_ok s hs64)]
  iapply (SparseCore.wp_vectorLoadIdx 𝒱₀ (th d i) none Set.univ (base := aW) (S := Finset.univ) (Finset.subset_univ _)) $$ HW
  iintro HW
  iapply (wp_load 𝒱₀ (th d i) none Set.univ (m := aR) (S := Finset.univ) (Finset.subset_univ _)) $$ H
  iintro H
  iapply (wp_store 𝒱₀ (th d i) none Set.univ (m := aR) (r := Rect.unit (s := S1024) ![16 * s] S16.size hs) (S := Finset.univ) (f := f) (Finset.subset_univ _)) $$ H
  iintro H
  rw [show ∀ g, ((aW).access (Rect.whole S64)).read (Elt F) g = g from Memref.read_access_whole (Elt F) cc0_scratch2]
  iapply Hk
  isplitl [HW]; · iexact HW
  iexists _
  isplitr
  swap; · iexact H
  ipureintro
  intro j hj
  by_cases hc : 16 * s ≤ (j 0).val
  · refine (part_in (n := 1024) (m := 16) ![16 * s] hs (write_part (Elt F) cc0_scratch3 _ f _) j (mk1 ((j 0).val - 16 * s) (by omega)) ?_).trans ?_
    · show (j 0).val = 16 * s + ((j 0).val - 16 * s)
      omega
    · rw [loadIdx_at]
      show nw (wts W) (BitVec.ofNat 32 s).toNat = _
      rw [BitVec.toNat_ofNat]
      congr 1; omega
  · refine (part_out (n := 1024) (m := 16) ![16 * s] hs (write_part_off (Elt F) cc0_scratch3 _ f _) j (.inl ?_)).trans (hf j (by omega))
    show (j 0).val < 16 * s
    omega

theorem wp_repSteps (W : (Vx 64).Idx → F .f32) (kk : PUnit → TP F i β) : ∀ (n s : ℕ) (h : s + n ≤ 64),
    iprop(pW d i (NW W) ∗ ∃ f, ⌜spread (nw (wts W)) s f⌝ ∗ pR d i f)
      ⊢ iprop(((pW d i (NW W) ∗ ∃ f, ⌜spread (nw (wts W)) (s + n) f⌝ ∗ pR d i f) -∗ run d i (kk ⟨⟩) Q) -∗ run d i (repSteps i n s h >>= kk) Q)
  | 0, s, h => by
    unfold repSteps
    rw [pure_bind]
    iintro H Hk
    iapply Hk; iexact H
  | n + 1, s, h => by
    unfold repSteps
    rw [bind_assoc]
    iintro H Hk
    iapply (wp_repStep d i s (by omega) (inb_of h) W) $$ H
    iintro H
    iapply (wp_repSteps W kk n (s + 1) (next_of h)) $$ H
    iintro H
    iapply Hk
    rw [show s + (n + 1) = s + 1 + n by omega]
    iexact H

/-! ## The accumulators zeroed -/

theorem trips1 : k0_t1_loop.trips = 1600 := by decide
theorem trips2 : k0_t2_loop.trips = 64 := by decide

/-- The words before word `16 k` are zero. -/
def zeroed (k : ℕ) (f : (Vx 25600).Idx → F .f32) : Prop := ∀ j, (j 0).val < 16 * k → f j = zero

theorem wp_zeroBody (k : Fin k0_t1_loop.trips) (u : Unit) :
    iprop(∃ f : (Vx 25600).Idx → F .f32, ⌜zeroed k.val f⌝ ∗ pO d i f) ⊢ run d i (zeroBody i k u) fun _ => iprop(∃ f : (Vx 25600).Idx → F .f32, ⌜zeroed (k.val + 1) f⌝ ∗ pO d i f) := by
  have hoff := k0_off2_eq k
  unfold zeroBody
  simp only [Prog.lift, Prog.bind_op, Prog.bind_ret, Prog.pure_eq_ret]
  iintro ⟨%f, %hf, H⟩
  iapply (wp_load 𝒱₀ (th d i) none Set.univ (m := aO) (S := Finset.univ) (Finset.subset_univ _)) $$ H
  iintro H
  iapply (wp_store 𝒱₀ (th d i) none Set.univ (m := aO) (r := Rect.unit (s := S25600) (k0_off2 k) S16.size (k0_off2_inb k)) (S := Finset.univ) (f := f) (Finset.subset_univ _)) $$ H
  iintro H
  rw [wp_ret]; imodintro
  iexists _
  isplitr
  swap; · iexact H
  ipureintro
  have h0 : k0_off2 k 0 = 16 * k.val := congrFun hoff 0
  intro j hj
  by_cases hc : 16 * k.val ≤ (j 0).val
  · refine part_in (n := 25600) (m := 16) (k0_off2 k) (k0_off2_inb k) (write_part (Elt F) cc0_scratch1 _ f _) j (mk1 ((j 0).val - 16 * k.val) (by omega)) ?_
    show (j 0).val = k0_off2 k 0 + ((j 0).val - 16 * k.val)
    omega
  · refine (part_out (n := 25600) (m := 16) (k0_off2 k) (k0_off2_inb k) (write_part_off (Elt F) cc0_scratch1 _ f _) j (.inl ?_)).trans (hf j (by omega))
    omega

theorem wp_zeros (kk : Unit → TP F i β) :
    iprop(∃ f, pO d i f) ⊢ iprop((pO d i (fun _ => zero) -∗ run d i (kk ⟨⟩) Q) -∗ run d i (Scf.Loop.for k0_t1_loop k0_t1_ok ⟨⟩ (zeroBody i) >>= kk) Q) := by
  iintro ⟨%f, H⟩ Hk
  iapply (Scf.wp_for_bind Idealize.ShloMosaic.frame (wpE (defs₀ (F := F)) 𝒱₀ (th d i) none) Set.univ _ _ _ k0_t1_ok _ (zeroBody i)
    (fun k _ => iprop(∃ f : (Vx 25600).Idx → F .f32, ⌜zeroed k f⌝ ∗ pO d i f)) (fun k u => wp_zeroBody d i k u)) $$ [H]
  · iexists f
    isplitr; · ipureintro; intro j hj; omega
    iexact H
  iintro %u ⟨%g, %hg, H⟩
  have e : g = fun _ => zero := by
    funext j
    refine hg j ?_
    have := lt_of_idx j
    have := trips1
    unfold Scf.Loop.trips at this
    omega
  subst e
  iapply Hk; iexact H

/-! ## The accumulation -/

theorem iv_eq (b : ℕ) : Scf.iv 0#32 1#32 b = BitVec.ofNat 32 b := by
  unfold Scf.iv; simp

theorem va_toNat (b : Fin k0_t2_loop.trips) (s : ℕ) (hs : s < 64) (x : (Vx 16).Idx) :
    (addi (vaOf b) (broadcast S16 (BitVec.ofNat 32 s)) x).toNat = (16 * b.val + (x 0).val) * 64 + s := by
  have hx := lt_of_idx x
  have hb : b.val < 64 := trips2 ▸ b.isLt
  show ((BitVec.ofNat 32 (0 * 16 + (x 0).val) * 64#32 + Scf.iv 0#32 1#32 b.val * 1024#32) + BitVec.ofNat 32 s).toNat = _
  rw [iv_eq]
  simp only [BitVec.toNat_add, BitVec.toNat_mul, BitVec.toNat_ofNat]
  omega

theorem vo_toNat (b : Fin k0_t2_loop.trips) (c : IVec S16 32) (x : (Vx 16).Idx) (hc : (c x).toNat < 25) :
    (addi (voOf b) c x).toNat = (16 * b.val + (x 0).val) * 25 + (c x).toNat := by
  have hx := lt_of_idx x
  have hb : b.val < 64 := trips2 ▸ b.isLt
  show ((BitVec.ofNat 32 (0 * 16 + (x 0).val) * 25#32 + Scf.iv 0#32 1#32 b.val * 400#32) + c x).toNat = _
  rw [iv_eq]
  simp only [BitVec.toNat_add, BitVec.toNat_mul, BitVec.toNat_ofNat]
  omega

theorem chk73_ok (b : Fin k0_t2_loop.trips) (s : ℕ) (hs : s < 64) : k0_chk73 (addi (vaOf b) (broadcast S16 (BitVec.ofNat 32 s))) := by
  intro a x
  have : a = 0 := Subsingleton.elim _ _
  subst this
  have hx := lt_of_idx (n := 16) x
  have hb : b.val < 64 := trips2 ▸ b.isLt
  show (addi (vaOf b) (broadcast S16 (BitVec.ofNat 32 s)) x).toNat < 65536
  rw [va_toNat b s hs]
  omega

theorem chk74_ok (b : Fin k0_t2_loop.trips) (c : IVec S16 32) (hc : ∀ x, (c x).toNat < 25) : k0_chk74 (addi (voOf b) c) := by
  intro a x
  have : a = 0 := Subsingleton.elim _ _
  subst this
  have hx := lt_of_idx (n := 16) x
  have hb : b.val < 64 := trips2 ▸ b.isLt
  have := hc x
  show (addi (voOf b) c x).toNat < 25600
  rw [vo_toNat b c x (hc x)]
  omega

/-- A scatter-add of sixteen addends into the accumulators. -/
theorem wp_scatter (v : IVec S16 32) (hv : k0_chk74 v) (w : Vec F S16 .f32) (f : (Vx 25600).Idx → F .f32) (kk : PUnit → TP F i β) :
    pO d i f ⊢ iprop((pO d i (storeIdx (F := F) (e := .f32) f ![v] w (fun _ => 1#1) true (k0_idx74_inb v hv)) -∗ run d i (kk ⟨⟩) Q)
      -∗ run d i (SparseCore.vectorStoreIdx aO ![v] w (fun _ => 1#1) true (k0_idx74_inb v hv) (View.stores_vmem_bits_univ h_S25600 rfl) >>= kk) Q) := by
  simp only [SparseCore.vectorStoreIdx, Prog.lift, Prog.bind_op, Prog.bind_ret]
  iintro H Hk
  iapply (wp_load_rect 𝒱₀ (th d i) none Set.univ (m := aO) (r := Rect.whole cc0_scratch1.ty.shape) (S := Finset.univ) (f := f) (Finset.subset_univ _)) $$ H
  iintro H
  iapply (wp_store 𝒱₀ (th d i) none Set.univ (m := aO) (r := Rect.whole cc0_scratch1.ty.shape) (S := Finset.univ) (f := f) (Finset.subset_univ _)) $$ H
  iintro H
  rw [show ∀ g, ((aO).access (Rect.whole cc0_scratch1.ty.shape)).read (Elt F) g = g from Memref.read_access_whole (Elt F) cc0_scratch1,
    show ∀ g w, ((aO).access (Rect.whole cc0_scratch1.ty.shape)).write (Elt F) g w Finset.univ = w from Memref.write_access_whole_univ (Elt F) cc0_scratch1]
  iapply Hk; iexact H

/-- The block loop by an invariant. -/
theorem wp_loop2 (body : Fin k0_t2_loop.trips → Unit → TP F i Unit) (I : ℕ → Unit → sProp (MM F))
    (hb : ∀ (b : Fin k0_t2_loop.trips) (u : Unit), I b.val u ⊢ run d i (body b u) (I (b.val + 1))) (kk : Unit → TP F i β) :
    I 0 ⟨⟩ ⊢ iprop((∀ u, I k0_t2_loop.trips u -∗ run d i (kk u) Q) -∗ run d i (Scf.Loop.for k0_t2_loop k0_t2_ok ⟨⟩ body >>= kk) Q) :=
  Scf.wp_for_bind Idealize.ShloMosaic.frame (wpE (defs₀ (F := F)) 𝒱₀ (th d i) none) Set.univ k0_t2_loop.lb k0_t2_loop.ub k0_t2_loop.st k0_t2_ok ⟨⟩ body I hb

section Acc

variable (A : (Vx 65536).Idx → BitVec 32) (hA : ∀ k, (at0 A k).toNat < 25) (q : ℕ → F .f32) (R : (Vx 1024).Idx → F .f32) (hR : spread q 64 R)
include hA hR

/-- What the accumulation steps run over: the letters, the spread weights, the accumulators `b` blocks and `s` steps in. -/
abbrev accAt (b s : ℕ) : sProp (MM F) := iprop(pL d i A ∗ pR d i R ∗ pO d i (partV q A b s))

/-- The letters of step `s` of block `b`, lane by lane. -/
abbrev letters (b : Fin k0_t2_loop.trips) (s : ℕ) : IVec S16 32 := fun x => at0 A ((16 * b.val + ((x : (Vx 16).Idx) 0).val) * 64 + s)

theorem wp_accStep (b : Fin k0_t2_loop.trips) (s : ℕ) (hs64 : s < 64) (hs : ∀ a, (![16 * s] : Fin 1 → ℕ) a + S16.size a ≤ S1024.size a) (kk : PUnit → TP F i β) :
    accAt d i A q R b.val s ⊢ iprop((accAt d i A q R b.val (s + 1) -∗ run d i (kk ⟨⟩) Q) -∗ run d i (accStep i (vaOf b) (voOf b) s hs >>= kk) Q) := by
  unfold accStep
  simp only [Prog.lift, Prog.bind_op, Prog.bind_ret, bind_assoc]
  iintro ⟨HL, HR, HO⟩ Hk
  unfold run
  rw [wp_assume_of 𝒱₀ (th d i) none Set.univ (chk73_ok b s hs64)]
  iapply (SparseCore.wp_vectorLoadIdx 𝒱₀ (th d i) none Set.univ (base := aL) (S := Finset.univ) (Finset.subset_univ _)) $$ HL
  iintro HL
  rw [show ∀ g, ((aL).access (Rect.whole S65536)).read (Elt F) g = g from Memref.read_access_whole (Elt F) cc0_scratch0]
  have e : loadIdx (F := F) (e := .i32) A ![addi (vaOf b) (broadcast S16 (BitVec.ofNat 32 s))] (k0_idx73_inb _ (chk73_ok b s hs64)) = letters A b s := by
    funext x
    have hx := lt_of_idx (n := 16) x
    have hb : b.val < 64 := trips2 ▸ b.isLt
    rw [loadIdx_at]
    show _ = at0 A _
    rw [at0_of_lt A (k := (16 * b.val + ((x : (Vx 16).Idx) 0).val) * 64 + s) (by omega)]
    exact congrArg A (ext1 (va_toNat b s hs64 x))
  rw [e, wp_assume_of 𝒱₀ (th d i) none Set.univ (chk74_ok b (letters A b s) fun x => hA _)]
  iapply (wp_load_rect 𝒱₀ (th d i) none Set.univ (m := aR) (r := Rect.unit (s := S1024) ![16 * s] S16.size hs) (S := Finset.univ) (f := R) (Finset.subset_univ _)) $$ HR
  iintro HR
  have e2 : storeIdx (F := F) (e := .f32) (partV q A b.val s) ![addi (voOf b) (letters A b s)]
      (((aR).access (Rect.unit (s := S1024) ![16 * s] S16.size hs)).read (Elt F) R) (fun _ => 1#1) true
      (k0_idx74_inb _ (chk74_ok b (letters A b s) fun x => hA _)) = partV q A b.val (s + 1) := by
    refine partV_step q A b.val s hs64 hA _ _ _ (fun x => vo_toNat b (letters A b s) x (hA _)) fun x => ?_
    have hx := lt_of_idx (n := 16) x
    have h0 := emb_part (n := 1024) (m := 16) ![16 * s] hs x
    have h1 : (((Rect.unit (s := S1024) ![16 * s] S16.size hs).emb x : (Vx 1024).Idx) 0).val = 16 * s + ((x : (Vx 16).Idx) 0).val := h0
    rw [read_part, hR _ (by rw [h1]; omega), h1]
    congr 1; omega
  iapply (wp_scatter d i _ (chk74_ok b (letters A b s) fun x => hA _) _ (partV q A b.val s)) $$ HO
  iintro HO
  rw [e2]
  iapply Hk
  isplitl [HL]; · iexact HL
  isplitl [HR]; · iexact HR
  iexact HO

theorem wp_accSteps (b : Fin k0_t2_loop.trips) (kk : PUnit → TP F i β) : ∀ (n s : ℕ) (h : s + n ≤ 64),
    accAt d i A q R b.val s ⊢ iprop((accAt d i A q R b.val (s + n) -∗ run d i (kk ⟨⟩) Q) -∗ run d i (accSteps i (vaOf b) (voOf b) n s h >>= kk) Q)
  | 0, s, h => by
    unfold accSteps
    rw [pure_bind]
    iintro H Hk
    iapply Hk; iexact H
  | n + 1, s, h => by
    unfold accSteps
    rw [bind_assoc]
    iintro H Hk
    iapply (wp_accStep d i A hA q R hR b s (by omega) (inb_of h)) $$ H
    iintro H
    iapply (wp_accSteps b kk n (s + 1) (next_of h)) $$ H
    iintro H
    iapply Hk
    rw [show s + (n + 1) = s + 1 + n by omega]
    iexact H

theorem wp_accBody (b : Fin k0_t2_loop.trips) (u : Unit) :
    accAt d i A q R b.val 0 ⊢ run d i (accBody i b u) fun _ => accAt d i A q R (b.val + 1) 0 := by
  have h := wp_accSteps d i A hA q R hR (Q := fun _ => accAt d i A q R (b.val + 1) 0) b (fun _ => (pure ⟨⟩ : TP F i PUnit)) 64 0 (Nat.le_refl _)
  have e : accBody (F := F) i b u = (accSteps i (vaOf b) (voOf b) 64 0 (Nat.le_refl _) >>= fun _ => (pure ⟨⟩ : TP F i PUnit)) := (bind_pure _).symm
  rw [e]
  iintro H
  iapply h $$ H
  iintro H
  unfold run
  rw [Prog.pure_eq_ret, wp_ret]; imodintro
  unfold accAt
  rw [← partV_next]
  iexact H

/-- The block loop's invariant. -/
def accI (n : ℕ) (_ : Unit) : sProp (MM F) := accAt d i A q R n 0

omit hA hR in
theorem accI_eq (n : ℕ) (u : Unit) : accI d i A q R n u = accAt d i A q R n 0 := rfl

theorem wp_accI (b : Fin k0_t2_loop.trips) (u : Unit) : accI d i A q R b.val u ⊢ run d i (accBody i b u) (accI d i A q R (b.val + 1)) := by
  rw [accI_eq, show accI d i A q R (b.val + 1) = fun u => accAt d i A q R (b.val + 1) 0 from funext fun u => accI_eq d i A q R _ u]
  exact wp_accBody d i A hA q R hR b u

/-- The block loop takes the zeroed accumulators to the result. -/
theorem wp_blocks (kk : Unit → TP F i β) :
    iprop(pL d i A ∗ pR d i R ∗ pO d i (fun _ => zero))
      ⊢ iprop(((pL d i A ∗ pR d i R ∗ pO d i (outV q A)) -∗ run d i (kk ⟨⟩) Q) -∗ run d i (Scf.Loop.for k0_t2_loop k0_t2_ok ⟨⟩ (accBody i) >>= kk) Q) := by
  rw [← partV_zero q A]
  iintro H Hk
  iapply (wp_loop2 d i (accBody i) (accI d i A q R) (wp_accI d i A hA q R hR) kk) $$ [H]
  · rw [accI_eq]; iexact H
  iintro %u H
  have e : accI d i A q R k0_t2_loop.trips u = iprop(pL d i A ∗ pR d i R ∗ pO d i (outV q A)) :=
    congrArg (fun f => iprop(pL d i A ∗ pR d i R ∗ pO d i f)) ((congrArg (fun n => partV q A n 0) trips2).trans (partV_end q A))
  ihave H' := (Entails.of_eq e) $$ H
  iapply Hk; iexact H'

end Acc

end Cert.Proof.KernelIdeal
-- ==== Proof.KernelIdeal.Tile.lean ====
/-
  One tile's task: it fetches its letters and the weights, normalises the weights, accumulates, and writes its part of the
  result out. The array of results is dealt out in thirty-two parts, the array of letters likewise, and each tile has a
  read share of the weights.
-/
module

public import proofs.«01_k».proof.Proof.KernelIdeal.Steps

@[expose] public section

noncomputable section

namespace Cert.Proof.KernelIdeal

open Cert.KernelIdeal Cert.KernelIdeal.Gen
open Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arrays and their parts -/

/-- The letters in one row, the weights, and the result in one row, on device `d`. -/
abbrev aLoc (d : Dev nD) : Loc nD τ sig := (SparseCore.T d).loc main_v0
abbrev wLoc (d : Dev nD) : Loc nD τ sig := (SparseCore.T d).loc main_arg1
abbrev oLoc (d : Dev nD) : Loc nD τ sig := (SparseCore.T d).loc main_v1

theorem hdivA : 32 ∣ S2097152.size 0 := ⟨65536, rfl⟩
theorem hdivO : 32 ∣ S819200.size 0 := ⟨25600, rfl⟩
abbrev partA (w : Fin 32) : Rect S2097152 := Rect.part (s := S2097152) (a₀ := 0) hdivA w
abbrev partO (w : Fin 32) : Rect S819200 := Rect.part (s := S819200) (a₀ := 0) hdivO w
abbrev setA (w : Fin 32) : Finset S2097152.Idx := ((hA).view.slice (partA w)).set
abbrev setO (w : Fin 32) : Finset S819200.Idx := ((hO).view.slice (partO w)).set

/-- Tile `w`'s letters, its share of the weights, and its part of the result. -/
abbrev aPts (d : Dev nD) (B : (Vx 2097152).Idx → BitVec 32) (w : Fin 32) : sProp (MM F) := aLoc d ↦[setA w]{fullShare} B
abbrev wPts (d : Dev nD) (W : (Vx 64).Idx → F .f32) (w : Fin 32) : sProp (MM F) := wLoc d ↦{Transfers.dealOf fullShare (Finset.univ : Finset (Fin 32)) w} W
abbrev oPts (d : Dev nD) (f : (Vx 819200).Idx → F .f32) (w : Fin 32) : sProp (MM F) := oLoc d ↦[setO w]{fullShare} f

/-- The tile at grid coordinates `L`. -/
def tid (L : grid0.Coords) : Fin 32 :=
  ⟨2 * (L 1).val + (L 0).val, by
    have h1 : (L 1).val < 16 := (L 1).isLt
    have h0 : (L 0).val < 2 := (L 0).isLt
    omega⟩

variable (d : Dev nD) (L : grid0.Coords)

theorem srcRect_eq : Rect.unit (s := S2097152) (k0_off1 L) S65536.size (k0_off1_inb L) = partA (tid L) := by
  unfold partA Rect.part Rect.block
  congr 1 <;> funext a
  · rw [k0_off1_eq]
    match a with
    | 0 => simp [Shape.partIx, Shape.partSize, tid]; omega
  · match a with
    | 0 => simp [Shape.partSize]
theorem dstRect_eq : Rect.unit (s := S819200) (k0_off4 L) S25600.size (k0_off4_inb L) = partO (tid L) := by
  unfold partO Rect.part Rect.block
  congr 1 <;> funext a
  · rw [k0_off4_eq]
    match a with
    | 0 => simp [Shape.partIx, Shape.partSize, tid]; omega
  · match a with
    | 0 => simp [Shape.partSize]

theorem set_srcK : (srcK L).view.set = setA (tid L) := by
  unfold setA
  rw [← srcRect_eq L]
theorem set_dstK : (dstK L).view.set = setO (tid L) := by
  unfold setO
  rw [← dstRect_eq L]

theorem pts_srcK (B : Buf (Elt F) (aLoc d)) :
    ((srcK L).view.loc (th d L) ↦[(srcK L).view.set]{fullShare} B : sProp (MM F)) = aPts d B (tid L) := by
  rw [set_srcK]
theorem pts_dstK (f : Buf (Elt F) (oLoc d)) :
    ((dstK L).view.loc (th d L) ↦[(dstK L).view.set]{fullShare} f : sProp (MM F)) = oPts d f (tid L) := by
  rw [set_dstK]

/-! ## The tile's own cells and buffers -/

/-- The semaphores of the letters' copy, the weights' copy and the result's copy. -/
abbrev cellA (d : Dev nD) (L : grid0.Coords) : GSem nD τ sig := (th d L, .dma cc0_scratch5.sem)
abbrev cellW (d : Dev nD) (L : grid0.Coords) : GSem nD τ sig := (th d L, .dma cc0_scoped0.sem)
abbrev cellO (d : Dev nD) (L : grid0.Coords) : GSem nD τ sig := (th d L, .dma cc0_scoped1.sem)

theorem ownSems0_V :
    (ownSems0 (th d L) : sProp (MM F))
      = iprop(semVal (cellA d L) 0 ∗ semVal (cellW d L) 0 ∗ semVal (cellO d L) 0
          ∗ bigSep ((((ownCells (th d L)).erase (cellA d L)).erase (cellW d L)).erase (cellO d L)) fun g => semVal g 0) := by
  unfold SparseCore.Cfg.ownSems0
  rw [SparseCore.bigSep_erase' ((mem_ownCells (g := cellA d L)).mpr ⟨rfl, by
      show (SemLoc.dma cc0_scratch5.sem : SemLoc sig).isScoped .scVector = true; decide⟩),
    SparseCore.bigSep_erase' (Finset.mem_erase.mpr ⟨by simp [cellA, cellW]; decide, (mem_ownCells (g := cellW d L)).mpr ⟨rfl, by
      show (SemLoc.dma cc0_scoped0.sem : SemLoc sig).isScoped .scVector = true; decide⟩⟩),
    SparseCore.bigSep_erase' (Finset.mem_erase.mpr ⟨by simp [cellW, cellO]; decide, Finset.mem_erase.mpr ⟨by simp [cellA, cellO]; decide,
      (mem_ownCells (g := cellO d L)).mpr ⟨rfl, by show (SemLoc.dma cc0_scoped1.sem : SemLoc sig).isScoped .scVector = true; decide⟩⟩⟩)]

abbrev own0 : Finset (DevRef τ sig) := ownRefs (τ := τ) (.scVector (cV L) (jV L))
abbrev dr (L : grid0.Coords) (r : Ref sig .scVector) : DevRef τ sig := (Proc.scVector (cV L) (jV L)).devRef r

theorem ownBufs_V :
    (ownBufs (th d L) : sProp (MM F))
      = iprop((∃ f, (th d L).loc cc0_scratch0 ↦{fullShare} f) ∗ (∃ f, (th d L).loc cc0_scratch1 ↦{fullShare} f)
          ∗ (∃ f, (th d L).loc cc0_scratch2 ↦{fullShare} f) ∗ (∃ f, (th d L).loc cc0_scratch3 ↦{fullShare} f)
          ∗ (∃ f, (th d L).loc cc0_scratch4 ↦{fullShare} f)
          ∗ bigSep ((((((own0 L).erase (dr L cc0_scratch0)).erase (dr L cc0_scratch1)).erase (dr L cc0_scratch2)).erase (dr L cc0_scratch3)).erase (dr L cc0_scratch4))
              fun b => iprop(∃ f, ((d, b) : Loc nD τ sig) ↦{fullShare} f)) := by
  have hm : ∀ r : Ref sig .scVector, (dr L r).owner = .proc (.scVector (cV L) (jV L)) → dr L r ∈ own0 L :=
    fun r h => SparseCore.Cfg.mem_ownRefs_of_owner h
  have hn : ∀ r r' : Ref sig .scVector, r ≠ r' → dr L r ≠ dr L r' := fun r r' h e => h (Proc.devRef_injective _ e)
  have n10 := hn cc0_scratch1 cc0_scratch0 (by decide)
  have n20 := hn cc0_scratch2 cc0_scratch0 (by decide)
  have n21 := hn cc0_scratch2 cc0_scratch1 (by decide)
  have n30 := hn cc0_scratch3 cc0_scratch0 (by decide)
  have n31 := hn cc0_scratch3 cc0_scratch1 (by decide)
  have n32 := hn cc0_scratch3 cc0_scratch2 (by decide)
  have n40 := hn cc0_scratch4 cc0_scratch0 (by decide)
  have n41 := hn cc0_scratch4 cc0_scratch1 (by decide)
  have n42 := hn cc0_scratch4 cc0_scratch2 (by decide)
  have n43 := hn cc0_scratch4 cc0_scratch3 (by decide)
  unfold SparseCore.Cfg.ownBufs
  refine (SparseCore.bigSep_erase' (hm cc0_scratch0 rfl)).trans ?_
  rw [SparseCore.bigSep_erase' (Finset.mem_erase.mpr ⟨n10, hm cc0_scratch1 rfl⟩),
    SparseCore.bigSep_erase' (Finset.mem_erase.mpr ⟨n21, Finset.mem_erase.mpr ⟨n20, hm cc0_scratch2 rfl⟩⟩),
    SparseCore.bigSep_erase' (Finset.mem_erase.mpr ⟨n32, Finset.mem_erase.mpr ⟨n31, Finset.mem_erase.mpr ⟨n30, hm cc0_scratch3 rfl⟩⟩⟩),
    SparseCore.bigSep_erase' (Finset.mem_erase.mpr ⟨n43, Finset.mem_erase.mpr ⟨n42, Finset.mem_erase.mpr ⟨n41, Finset.mem_erase.mpr ⟨n40, hm cc0_scratch4 rfl⟩⟩⟩⟩)]

/-! ## What the tile fetches and what it hands back -/

/-- Where word `x` of a tile's letters lies among all the letters. -/
theorem src_emb (B : (Vx 2097152).Idx → BitVec 32) (x : (Vx 65536).Idx) :
    (srcK L).view.read (Elt F) B x = at0 B (65536 * (tid L).val + (x 0).val) := by
  have hx := lt_of_idx x
  have ht : (tid L).val < 32 := (tid L).isLt
  rw [at0_of_lt B (show 65536 * (tid L).val + (x 0).val < 2097152 by omega)]
  refine congrArg B (ext1 ?_)
  refine (emb_part (n := 2097152) (m := 65536) (off := k0_off1 L) (h := k0_off1_inb L) x).trans ?_
  rw [mk1_val, k0_off1_eq]
  show 131072 * (L 1).val + 65536 * (L 0).val + _ = 65536 * (2 * (L 1).val + (L 0).val) + _
  omega

/-- Where word `x` of a tile's result lies among all the results. -/
theorem dst_emb (x : (Vx 25600).Idx) : (((dstK L).view.emb x : (Vx 819200).Idx) 0).val = 25600 * (tid L).val + (x 0).val := by
  refine (emb_part (n := 819200) (m := 25600) (off := k0_off4 L) (h := k0_off4_inb L) x).trans ?_
  rw [k0_off4_eq]
  show 51200 * (L 1).val + 25600 * (L 0).val + _ = 25600 * (2 * (L 1).val + (L 0).val) + _
  omega

/-- The letters of a tile. -/
def letV (L : grid0.Coords) (B : (Vx 2097152).Idx → BitVec 32) : (Vx 65536).Idx → BitVec 32 :=
  fun x => at0 B (65536 * (tid L).val + (x 0).val)

theorem letV_at (B : (Vx 2097152).Idx → BitVec 32) (i : ℕ) (hi : i < 65536) : at0 (letV L B) i = at0 B (65536 * (tid L).val + i) := by
  rw [at0_of_lt _ hi]; rfl

theorem letV_lt (B : (Vx 2097152).Idx → BitVec 32) (hB : ∀ k, (at0 B k).toNat < 25) (i : ℕ) : (at0 (letV L B) i).toNat < 25 := by
  by_cases hi : i < 65536
  · rw [letV_at L B i hi]; exact hB _
  · unfold at0; rw [dif_neg hi]; decide

/-- A part of a whole buffer, written at one go, holds what was written. -/
theorem writes_part {sg : RefSig} {κ : Kind} {Val : EltTy → Type} (b : Ref sg κ) (r : Rect b.ty.shape) (hr : ∀ a, r.stride a = 1)
    (f : b.ty.Contents Val) (w : r.shape.Idx → Val b.ty.elt) (x : r.shape.Idx) :
    ((Memref.whole b).slice r hr).view.writes Val f [⟨Rect.whole r.shape, w⟩] (r.emb x) = w x :=
  congrFun (View.read_writes_whole (Val := Val) ((Memref.whole b).slice r hr).view f w) x

/-- The written piece of the result is that piece of the whole result. -/
theorem written [FloatOps F] (B : (Vx 2097152).Idx → BitVec 32) (q : ℕ → F .f32) (f₀ : (Vx 819200).Idx → F .f32) :
    ((dstK L).view.loc (th d L) ↦[(dstK L).view.set]{fullShare}
        (dstK L).view.writes (Elt F) f₀ [⟨Rect.whole S25600, outV q (letV L B)⟩] : sProp (MM F))
      = oPts d (outV q B) (tid L) := by
  rw [← pts_dstK d L (outV q B)]
  refine pointsTo_congr fun j hj => ?_
  obtain ⟨x, -, rfl⟩ := Finset.mem_map.mp hj
  have e := writes_part (Val := Elt F) main_v1_scv (Rect.unit (s := S819200) (k0_off4 L) S25600.size (k0_off4_inb L)) (fun _ => rfl)
    f₀ (outV q (letV L B)) x
  refine Eq.trans e ?_
  exact outV_piece q (letV L B) B (tid L).val (letV_at L B) x _ (dst_emb L x)

theorem arrived (f : (Vx 65536).Idx → BitVec 32) (B : (Vx 2097152).Idx → BitVec 32) :
    View.write (Elt F) (aL).view f ((srcK L).view.read (Elt F) B) Finset.univ = letV L B :=
  (View.write_whole_univ (Val := Elt F) cc0_scratch0 f _).trans (funext fun x => src_emb L B x)

/-! ## The task -/

variable [FloatOps F]

theorem tile_body (hF : (K (F := F)).Facts) (B : (Vx 2097152).Idx → BitVec 32) (hB : ∀ k, (at0 B k).toNat < 25) (W : (Vx 64).Idx → F .f32)
    (f₀ : (Vx 819200).Idx → F .f32) (O : CellTallies nD τ sig (HIx 1)) (Wt : Waits sig (HIx 1)) (hO0 : ∀ g, O g none = 0) :
    iprop(levAts (K (F := F)).L (K (F := F)).lev ∗ emp
        ∗ (aPts d B (tid L) ∗ wPts d W (tid L) ∗ oPts d f₀ (tid L))
        ∗ scopedBufs (th d L) ∗ scopedSems0 (th d L) ∗ owes (th d L) O Wt)
      ⊢ wp frame (wpE (defs₀ (F := F)) 𝒱₀ (th d L) none) Set.univ
          (cc0__pwm_body (F := F) L hA (Memref.isWhole_whole _) hW (Memref.isWhole_whole _) hO (Memref.isWhole_whole _)
            aL (Memref.isWhole_whole _) aO (Memref.isWhole_whole _) aW (Memref.isWhole_whole _) aR (Memref.isWhole_whole _) aX (Memref.isWhole_whole _)
            cc0_scratch5 cc0_scoped0 cc0_scoped1)
          fun _ => iprop((aPts d B (tid L) ∗ wPts d W (tid L) ∗ oPts d (outV (nw (wts W)) B) (tid L))
            ∗ scopedBufs (th d L) ∗ scopedSems0 (th d L)
            ∗ ∃ W', ⌜∀ p ∈ W', p ∈ Wt ∨ p.2 = none ∨ p.2 = some (0 : Fin 1)⌝ ∗ owes (th d L) O W') := by
  rw [body_eq, (K (F := F)).scopedBufs_V hF d (cV L) (jV L), SparseCore.Cfg.scopedSems0_V (Val := Elt F) d (cV L) (jV L), ownSems0_V, ownBufs_V]
  iintro ⟨#Hlv, -, ⟨Ha, Hw, Ho⟩, ⟨⟨%fl, HL⟩, ⟨%fo, HO⟩, ⟨%fw, HW⟩, ⟨%fr, HR⟩, ⟨%fx, HX⟩, Hbufs⟩, ⟨HsemA, HsemW, HsemO, Hsems⟩, Howe⟩
  ihave Hmw := (show levAts (K (F := F)).L (K (F := F)).lev ⊢ Transfers.MayWaits (th d L) (default : HIx 1) O from
    (K (F := F)).mayWaits_none (thr := th d L) hO0) $$ Hlv
  ihave Ha' := (Entails.of_eq (pts_srcK (F := F) d L _).symm) $$ Ha
  ihave Ho' := (Entails.of_eq (pts_dstK (F := F) d L _).symm) $$ Ho
  ihave Hw' := (show wPts d W (tid L) ⊢ ((hW).view.loc (th d L) ↦{Transfers.dealOf fullShare (Finset.univ : Finset (Fin 32)) (tid L)} W : sProp (MM F)) from .rfl) $$ Hw
  ihave HL' := (show _ ⊢ ((aL).view.loc (th d L) ↦{fullShare} fl : sProp (MM F)) from .rfl) $$ HL
  ihave HW' := (show _ ⊢ ((aW).view.loc (th d L) ↦{fullShare} fw : sProp (MM F)) from .rfl) $$ HW
  ihave HO' := (show _ ⊢ ((aO).view.loc (th d L) ↦{fullShare} fo : sProp (MM F)) from .rfl) $$ HO
  unfold tileProg fetchProg
  generalize hs : softProg (F := F) L = sp
  sl_exec (disch := exact View.amount_pos _ _ (show 0 < S65536.numel by decide))
  subst hs
  have eW : View.write (Elt F) (aW).view fw (tile_body.sl.dma0_1 W) Finset.univ = W := View.write_whole_univ (Val := Elt F) cc0_scratch2 fw _
  ihave HW2 := (Entails.of_eq (congrArg (fun f => pW d L f) eW)) $$ HW'
  iapply (wp_softProg d L W _) $$ [HW2 HX]
  · isplitl [HW2]; · iexact HW2
    iexists fx; iexact HX
  iintro ⟨HW2, HX2⟩
  iapply (wp_repSteps d L W _ 64 0 (Nat.le_refl _)) $$ [HW2 HR]
  · isplitl [HW2]; · iexact HW2
    iexists fr
    isplitr; · ipureintro; intro j hj; omega
    iexact HR
  iintro ⟨HW2, ⟨%R, %hR, HR2⟩⟩
  iapply (wp_zeros d L _) $$ [HO']
  · iexists fo; iexact HO'
  iintro HO2
  unfold run arriveProg
  generalize hl : Scf.Loop.for k0_t2_loop k0_t2_ok PUnit.unit (accBody (F := F) L) = lp
  sl_exec (disch := exact View.amount_pos _ _ (show 0 < S65536.numel by decide))
  subst hl
  ihave HL2 := (Entails.of_eq (congrArg (fun f => pL d L f) (show View.write (Elt F) (aL).view fl (tile_body.sl.dma0 L B) Finset.univ = letV L B from arrived (F := F) L fl B))) $$ HL'
  iapply (wp_blocks d L (letV L B) (letV_lt L B hB) (nw (wts W)) R hR _) $$ [HL2 HR2 HO2]
  · isplitl [HL2]; · iexact HL2
    isplitl [HR2]; · iexact HR2
    iexact HO2
  iintro ⟨HL2, HR2, HO2⟩
  ihave HO3 := (show pO d L (outV (nw (wts W)) (letV L B))
    ⊢ ((aO).view.loc (th d L) ↦{fullShare} outV (nw (wts W)) (letV L B) : sProp (MM F)) from .rfl) $$ HO2
  unfold run outProg
  sl_exec (disch := exact View.amount_pos _ _ (show 0 < S25600.numel by decide))
  ihave Ho2 := (Entails.of_eq (show ((dstK L).view.loc (th d L) ↦[(dstK L).view.set]{fullShare}
      (dstK L).view.writes (Elt F) f₀ [⟨Rect.whole S25600, tile_body.sl.dma0_2 L B W⟩] : sProp (MM F))
    = oPts d (outV (nw (wts W)) B) (tid L) from written d L B (nw (wts W)) f₀)) $$ Ho'
  ihave Ha2 := (Entails.of_eq (pts_srcK (F := F) d L _)) $$ Ha'
  sl_step
  isplitl [Ho2 Ha2 Hw']
  · isplitl [Ha2]; · iexact Ha2
    isplitl [Hw']; · iexact Hw'
    iexact Ho2
  isplitl [HL2 HO3 HW2 HR2 HX2 Hbufs]
  · isplitl [HL2]; · iexists _; iexact HL2
    isplitl [HO3]; · iexists _; iexact HO3
    isplitl [HW2]; · iexists _; iexact HW2
    isplitl [HR2]; · iexists _; iexact HR2
    isplitl [HX2]; · iexact HX2
    iexact Hbufs
  isplitl [HsemA HsemW HsemO Hsems]
  · isplitl [HsemA]; · iexact HsemA
    isplitl [HsemW]; · iexact HsemW
    isplitl [HsemO]; · iexact HsemO
    iexact Hsems
  iexists _; isplitr
  swap; · iexact Howe
  ipureintro; intro p _
  rcases p.2 with _ | q
  · exact .inr (.inl rfl)
  · exact .inr (.inr (congrArg some (Subsingleton.elim q 0)))

end Cert.Proof.KernelIdeal
-- ==== Proof.KernelIdeal.Launch.lean ====
/-
  The launch: what each tile is handed and hands back, the reshape before the call and the one after it, and the whole
  program's run: the inputs kept, and the result that of the weight matrix's sums.
-/
module

public import proofs.«01_k».proof.Proof.KernelIdeal.Tile

@[expose] public section

noncomputable section

namespace Cert.Proof.KernelIdeal

open Cert.KernelIdeal Cert.KernelIdeal.Gen
open Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-- The sequences as given, and the result as returned, on device `d`. -/
abbrev xLoc (d : Dev nD) : Loc nD τ sig := (SparseCore.T d).loc main_arg0
abbrev rLoc (d : Dev nD) : Loc nD τ sig := (SparseCore.T d).loc main_v2

/-- The sequences in one row. -/
def Lts (d : Dev nD) : (Vx 2097152).Idx → BitVec 32 :=
  shapeCast S2097152 (m (xLoc d) : S16x2048x64.Idx → BitVec 32) shapeCasts_S16x2048x64_S2097152
/-- The result in one row: at letter `c` of window `p` the sum of the normalised weights of the window's places holding `c`. -/
def Out (d : Dev nD) : (Vx 819200).Idx → F .f32 := outV (nw (wts (m (wLoc d)))) (Lts m d)
/-- The result as returned. -/
def Ret (d : Dev nD) : Buf (Elt F) (rLoc d) := shapeCast S16x2048x25 (Out m d) shapeCasts_S819200_S16x2048x25

/-- Every letter is one of the twenty-five. -/
def InRange : Prop := ∀ (d : Dev nD) (j : S16x2048x64.Idx), ((m (xLoc d) j : BitVec 32)).toNat < 25

theorem lts_lt (hm : InRange m) (d : Dev nD) (k : ℕ) : (at0 (Lts m d) k).toNat < 25 := by
  by_cases hk : k < 2097152
  · rw [at0_of_lt _ hk]; exact hm d _
  · unfold at0; rw [dif_neg hk]; decide

/-! ## The tiles' parts -/

/-- Tile number `2 * i + c` is vector subcore `i` of SparseCore `c`. -/
def wOf (c : Fin 2) (i : Fin 16) : Fin 32 := ⟨2 * i.val + c.val, by omega⟩
def tiles : Fin 2 × Fin 16 ≃ Fin 32 := (Equiv.prodComm _ _).trans finProdFinEquiv
theorem tiles_eq (c : Fin 2) (i : Fin 16) : tiles (c, i) = wOf c i := Fin.ext (by simp [tiles, wOf, finProdFinEquiv]; omega)

/-- What one tile holds: its letters, its share of the weights, its part of the result at `f`. -/
abbrev piece (d : Dev nD) (f : (Vx 819200).Idx → F .f32) (w : Fin 32) : sProp (MM F) :=
  iprop(aPts d (Lts m d) w ∗ wPts d (m (wLoc d)) w ∗ oPts d f w)
/-- The sixteen tiles of a SparseCore together. -/
abbrev pieces (d : Dev nD) (f : (Vx 819200).Idx → F .f32) (c : Fin 2) : sProp (MM F) :=
  bigSep Finset.univ fun i : Fin 16 => piece m d f (wOf c i)

theorem all_tiles (Φ : Fin 32 → sProp (MM F)) :
    bigSep Finset.univ Φ = bigSep Finset.univ fun c : Fin 2 => bigSep Finset.univ fun i : Fin 16 => Φ (wOf c i) := by
  rw [bigSep_univ_equiv tiles Φ, bigSep_univ_prod]
  exact bigSep_congr fun c _ => bigSep_congr fun i _ => congrArg Φ (tiles_eq c i)

theorem setA_eq (w : Fin 32) : setA w = (partA w).set := by
  show ((View.whole (main_v0_scv : Ref sig .scVector)).slice (partA w)).set = _
  rw [View.set_slice]; exact Finset.map_refl
theorem setO_eq (w : Fin 32) : setO w = (partO w).set := by
  show ((View.whole (main_v1_scv : Ref sig .scVector)).slice (partO w)).set = _
  rw [View.set_slice]; exact Finset.map_refl

theorem aPts_all (d : Dev nD) (B : (Vx 2097152).Idx → BitVec 32) :
    (aLoc d ↦{fullShare} B : sProp (MM F)) = bigSep Finset.univ fun w : Fin 32 => aPts d B w := by
  rw [← pointsTo_biUnion Finset.univ (ℓ := aLoc d) setA
      (fun i _ j _ h => by rw [setA_eq, setA_eq]; exact Rect.part_disjoint hdivA h),
    (Finset.biUnion_congr rfl fun i _ => setA_eq i).trans (Rect.biUnion_part hdivA)]
theorem oPts_all (d : Dev nD) (f : (Vx 819200).Idx → F .f32) :
    (oLoc d ↦{fullShare} f : sProp (MM F)) = bigSep Finset.univ fun w : Fin 32 => oPts d f w := by
  rw [← pointsTo_biUnion Finset.univ (ℓ := oLoc d) setO
      (fun i _ j _ h => by rw [setO_eq, setO_eq]; exact Rect.part_disjoint hdivO h),
    (Finset.biUnion_congr rfl fun i _ => setO_eq i).trans (Rect.biUnion_part hdivO)]
theorem wPts_all (d : Dev nD) (W : (Vx 64).Idx → F .f32) :
    (wLoc d ↦{fullShare} W : sProp (MM F)) = bigSep Finset.univ fun w : Fin 32 => wPts d W w :=
  Transfers.pointsTo_deal Finset.univ Finset.univ_nonempty fullShare

/-- The three arrays whole are the two SparseCores' pieces. -/
theorem deal (d : Dev nD) (f : (Vx 819200).Idx → F .f32) :
    (iprop((aLoc d ↦{fullShare} Lts m d) ∗ (wLoc d ↦{fullShare} m (wLoc d)) ∗ (oLoc d ↦{fullShare} f)) : sProp (MM F))
      = bigSep Finset.univ fun c : Fin 2 => pieces m d f c := by
  rw [aPts_all, wPts_all, oPts_all, ← bigSep_sep', ← bigSep_sep', all_tiles]

/-! ## The call's hand-overs -/

def P : (K (F := F)).Pay (nD := nD) (Val := Elt F) (Name := ℕ) (U := UU) where
  st := fun q d c => match q with | 0 => pieces m d (m (oLoc d)) (Fin.cast nCore_zero c)
  dn := fun q d c => match q with | 0 => pieces m d (Out m d) (Fin.cast nCore_zero c)
  go := fun q d c i => match q with | 0 => piece m d (m (oLoc d)) (wOf (Fin.cast nCore_zero c) (Fin.cast nSub_zero i))
  td := fun q d c i => match q with | 0 => piece m d (Out m d) (wOf (Fin.cast nCore_zero c) (Fin.cast nSub_zero i))
  x := fun _ _ => iprop(emp)

instance P_storable : (P (F := F) m).IsStorable where
  st q d c := match q with
    | 0 => (inferInstance : BI.Storable (upEmb : UEmb _ (MM F)) (pieces m d (m (oLoc d)) (Fin.cast nCore_zero c)))
  dn q d c := match q with
    | 0 => (inferInstance : BI.Storable (upEmb : UEmb _ (MM F)) (pieces m d (Out m d) (Fin.cast nCore_zero c)))
  go q d c i := match q with
    | 0 => (inferInstance : BI.Storable (upEmb : UEmb _ (MM F)) (piece m d (m (oLoc d)) (wOf (Fin.cast nCore_zero c) (Fin.cast nSub_zero i))))
  td q d c i := match q with
    | 0 => (inferInstance : BI.Storable (upEmb : UEmb _ (MM F)) (piece m d (Out m d) (wOf (Fin.cast nCore_zero c) (Fin.cast nSub_zero i))))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pwm_body (F := F) (coordsV c s)
          hA (Memref.isWhole_whole _) hW (Memref.isWhole_whole _) hO (Memref.isWhole_whole _)
            aL (Memref.isWhole_whole _) aO (Memref.isWhole_whole _) aW (Memref.isWhole_whole _) aR (Memref.isWhole_whole _) aX (Memref.isWhole_whole _)
            cc0_scratch5 cc0_scoped0 cc0_scoped1) ⟨⟩ c s := rfl

set_option maxRecDepth 20000 in
theorem tileObl (hm : InRange m) : (K (F := F)).TileObl (D (F := F)) 𝒱 (P m) v₀ 0 := by
  intro d c i O W hO0 _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have t := tile_body d (coordsV ⟨_, hci.1⟩ ⟨_, hci.2⟩) facts (Lts m d) (lts_lt m hm d) (m (wLoc d)) (m (oLoc d)) O W hO0
  rw [show tid (coordsV ⟨_, hci.1⟩ ⟨_, hci.2⟩) = wOf (Fin.cast nCore_zero c) (Fin.cast nSub_zero i) from Fin.ext rfl] at t
  rw [show (P m).go 0 d c i = piece m d (m (oLoc d)) (wOf (Fin.cast nCore_zero c) (Fin.cast nSub_zero i)) from rfl,
    show (P m).td 0 d c i = piece m d (outV (nw (wts (m (wLoc d)))) (Lts m d)) (wOf (Fin.cast nCore_zero c) (Fin.cast nSub_zero i)) from rfl,
    show (P m).x 0 (V d ((K (F := F)).core 0 c) ((K (F := F)).sub 0 i)) = iprop(emp) from rfl]
  exact t

theorem vecSplit : (K (F := F)).VecSplit' (P m) 0 := by
  intro d c
  show pieces m d (m (oLoc d)) (Fin.cast nCore_zero c) ⊢ |={Set.univ}=> iprop(
      pieces m d (m (oLoc d)) (Fin.cast nCore_zero c) ∗ (pieces m d (Out m d) (Fin.cast nCore_zero c) -∗ pieces m d (Out m d) (Fin.cast nCore_zero c)))
  iintro H; imodintro
  isplitl [H]; · iexact H
  iintro H; iexact H

/-! ## The launch's own resources -/

def u₀ : UU := (initOf (K (F := F)).hsCells (K (F := F)).hsToks, 1)

theorem bigSep_none {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The program on the TensorCore -/

abbrev x' : DevRef τ sig := Proc.devRef .tc (main_arg0 : Ref sig .tc)
abbrev w' : DevRef τ sig := Proc.devRef .tc (main_arg1 : Ref sig .tc)
abbrev a' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev S5 : Finset (DevRef τ sig) := {x', w', a', o', r'}

abbrev opIn : HloOp τ sig (Elt F) :=
  StableHlo.reshape main_arg0 main_v0 (rfl : (.i32 : EltTy) = .i32) shapeCasts_S16x2048x64_S2097152
abbrev opOut : HloOp τ sig (Elt F) :=
  StableHlo.reshape main_v1 main_v2 (rfl : (.f32 : EltTy) = .f32) shapeCasts_S819200_S16x2048x25

theorem held_S5 (d : Dev nD) (V : Valuation τ sig (Elt F)) :
    (held (T d) S5 V : sProp (MM F))
      = iprop((xLoc d ↦{fullShare} V x') ∗ (wLoc d ↦{fullShare} V w') ∗ (aLoc d ↦{fullShare} V a')
          ∗ (oLoc d ↦{fullShare} V o') ∗ rLoc d ↦{fullShare} V r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp (MM F))
      = iprop((xLoc d ↦{fullShare} W main_arg0) ∗ (wLoc d ↦{fullShare} W main_arg1) ∗ (aLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at the launch, and after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (Out m d)

theorem unscoped_held (d : Dev nD) : (unscopedBufs d (fun b => m ((SparseCore.T d).loc b)) : sProp (MM F)) = held (T d) S5 (V0 m d) := by
  rw [unscopedBufs_eq, held_S5]; rfl

theorem V1_keep (d : Dev nD) {b : DevRef τ sig} (h : b ∉ ({a'} : Finset (DevRef τ sig))) : V1 m d b = m (d, b) :=
  (opIn (F := F)).result_of_not_mem _ h
theorem V1_a (d : Dev nD) : V1 m d a' = Lts m d := StableHlo.reshape_result _ _ _ _ _ _ _

theorem held_V1 (d : Dev nD) :
    (held (T d) S5 ((opIn (F := F)).result (V0 m d)) : sProp (MM F))
      = iprop((xLoc d ↦{fullShare} m (xLoc d)) ∗ (wLoc d ↦{fullShare} m (wLoc d)) ∗ (aLoc d ↦{fullShare} Lts m d)
          ∗ (oLoc d ↦{fullShare} m (oLoc d)) ∗ rLoc d ↦{fullShare} m (rLoc d)) := by
  show held (T d) S5 (V1 m d) = _
  rw [held_S5, V1_a, V1_keep m d (b := x') (by decide), V1_keep m d (b := w') (by decide), V1_keep m d (b := o') (by decide),
    V1_keep m d (b := r') (by decide)]
theorem held_V2 (d : Dev nD) :
    (held (T d) S5 (V2 m d) : sProp (MM F))
      = iprop((xLoc d ↦{fullShare} m (xLoc d)) ∗ (wLoc d ↦{fullShare} m (wLoc d)) ∗ (aLoc d ↦{fullShare} Lts m d)
          ∗ (oLoc d ↦{fullShare} Out m d) ∗ rLoc d ↦{fullShare} m (rLoc d)) := by
  have hne : ∀ b : DevRef τ sig, b ≠ o' → V2 m d b = V1 m d b := fun b h => Function.update_of_ne h _ _
  have ho : V2 m d o' = Out m d := Function.update_self _ _ _
  rw [held_S5, ho, hne x' (by decide), hne w' (by decide), hne a' (by decide), hne r' (by decide), V1_a, V1_keep m d (b := x') (by decide),
    V1_keep m d (b := w') (by decide), V1_keep m d (b := r') (by decide)]
theorem V3_r (d : Dev nD) : (opOut (F := F)).result (V2 m d) r' = Ret m d := by
  refine (StableHlo.reshape_result _ _ _ _ _ _ _).trans ?_
  show (fun i => shapeCast S16x2048x25 (V2 m d o') _ i) = _
  rw [show V2 m d o' = Out m d from Function.update_self _ _ _]
  rfl
theorem held_V3 (d : Dev nD) :
    (held (T d) S5 ((opOut (F := F)).result (V2 m d)) : sProp (MM F))
      = iprop((xLoc d ↦{fullShare} m (xLoc d)) ∗ (wLoc d ↦{fullShare} m (wLoc d)) ∗ (aLoc d ↦{fullShare} (opOut (F := F)).result (V2 m d) a')
          ∗ (oLoc d ↦{fullShare} (opOut (F := F)).result (V2 m d) o') ∗ rLoc d ↦{fullShare} Ret m d) := by
  have hne : ∀ b : DevRef τ sig, b ≠ o' → V2 m d b = V1 m d b := fun b h => Function.update_of_ne h _ _
  rw [held_S5, V3_r, (opOut (F := F)).result_of_not_mem (V2 m d) (b := x') (show x' ∉ ({r'} : Finset (DevRef τ sig)) by decide),
    (opOut (F := F)).result_of_not_mem (V2 m d) (b := w') (show w' ∉ ({r'} : Finset (DevRef τ sig)) by decide),
    hne x' (by decide), hne w' (by decide), V1_keep m d (b := x') (by decide), V1_keep m d (b := w') (by decide)]

theorem st0_eq (d : Dev nD) :
    (bigSep Finset.univ fun c : Fin ((K (F := F)).nCore 0) => (P m).st 0 d c)
      = iprop((aLoc d ↦{fullShare} Lts m d) ∗ (wLoc d ↦{fullShare} m (wLoc d)) ∗ (oLoc d ↦{fullShare} m (oLoc d))) := (deal m d _).symm
theorem dn0_eq (d : Dev nD) :
    (bigSep Finset.univ fun c : Fin ((K (F := F)).nCore 0) => (P m).dn 0 d c)
      = iprop((aLoc d ↦{fullShare} Lts m d) ∗ (wLoc d ↦{fullShare} m (wLoc d)) ∗ (oLoc d ↦{fullShare} Out m d)) := (deal m d _).symm

theorem hIn : (opIn (F := F)).bufs ⊆ S5 := show ({x', a'} : Finset (DevRef τ sig)) ⊆ S5 by decide
theorem hOut : (opOut (F := F)).bufs ⊆ S5 := show ({o', r'} : Finset (DevRef τ sig)) ⊆ S5 by decide

/-- What the program leaves: the inputs as they were, and the result. -/
abbrev FIN (d : Dev nD) : sProp (MM F) :=
  iprop((xLoc d ↦{fullShare} m (xLoc d)) ∗ (wLoc d ↦{fullShare} m (wLoc d)) ∗ rLoc d ↦{fullShare} Ret m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 m d)) $$ Hheld
  icases Hh with ⟨Hx, Hw, Ha, Ho, Hr⟩
  iapply ((K (F := F)).wp_run (D (F := F)) 𝒱 (EH := EH) (P := P m) κ d 0) $$ [Hst Hx Hw Ha Ho Hr Hb Hts]
  isplitr; · iexact Hctx
  isplitl [Hst]; · iexact Hst
  isplitl [Ha Hw Ho]
  · rw [st0_eq]
    isplitl [Ha]; · iexact Ha
    isplitl [Hw]; · iexact Hw
    iexact Ho
  iintro ⟨Hst, Hdn⟩
  ihave Hdn' := (Entails.of_eq (dn0_eq m d)) $$ Hdn
  icases Hdn' with ⟨Ha, Hw, Ho⟩
  iapply (wp_hlo_within 𝒱 (SparseCore.T d) none Set.univ (op := opOut) (S := S5) hOut (V := V2 m d)) $$ [Hb Hx Hw Ha Ho Hr]
  · isplitl [Hb]; · iexact Hb
    rw [held_V2]
    isplitl [Hx]; · iexact Hx
    isplitl [Hw]; · iexact Hw
    isplitl [Ha]; · iexact Ha
    isplitl [Ho]; · iexact Ho
    iexact Hr
  iintro ⟨Hb, Hheld⟩
  ihave Hh := (Entails.of_eq (held_V3 m d)) $$ Hheld
  icases Hh with ⟨Hx, Hw, -, -, Hr⟩
  rw [wp_ret]; imodintro; imodintro
  isplitl [Hst]; · iexact Hst
  isplitr [Hb Hts]
  · isplitl [Hx]; · iexact Hx
    isplitl [Hw]; · iexact Hw
    iexact Hr
  isplitl [Hb] <;> iassumption

/-! ## The run -/

/-- What is read off the final state of device `d`. -/
def fq (d : Dev nD) (s' : Phys nD τ sig (Elt F)) : Prop :=
  s'.mem.mem (xLoc d) = m (xLoc d) ∧ s'.mem.mem (wLoc d) = m (wLoc d) ∧ s'.mem.mem (rLoc d) = Ret m d

theorem hfin (d : Dev nD) (s' : Phys nD τ sig (Elt F)) : iprop(FIN m d ∗ SI s') ⊢ (⌜fq m d s'⌝ : sProp (MM F)) := by
  iintro ⟨⟨Hx, Hw, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (SI_pointsTo_agree (st := s') (ℓ := rLoc d) (I := Finset.univ) (q := fullShare) (f := Ret m d)) $$ [HSI Hr]
  · isplitl [HSI] <;> iassumption
  icases H with %hr
  ipureintro
  exact ⟨funext fun i => hx i (Finset.mem_univ i), funext fun i => hw i (Finset.mem_univ i), funext fun i => hr i (Finset.mem_univ i)⟩

/-- The result of a run: the inputs kept, the result `Ret`, and every semaphore back at zero. -/
def QC : PUnit × MemSt nD τ sig (Elt F) → Prop := fun r =>
  (∀ c : Dev nD, r.2.mem (xLoc c) = m (xLoc c) ∧ r.2.mem (wLoc c) = m (wLoc c) ∧ r.2.mem (rLoc c) = Ret m c) ∧ r.2.sem = fun _ => 0

theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal
-- ==== Proof.Pre.lean ====
/-
  The preconditions, read as facts about the arguments. `in_range` says that every letter of the alignment is a column:
  below twenty-five. `in_range_finite` says in addition that no weight is infinite.
-/
module

public import proofs.«01_k».proof.Defs
public import Idealize.ShloMosaic.Lib.ReduceAll
public import Idealize.ShloMosaic.Lib.Affine
public import Idealize.ShloMosaic.Lib.IdealHost

@[expose] public section

noncomputable section

namespace Cert.Proof.Pre

open Idealize.ShloMosaic

/-- A rank-zero array has one index. -/
instance : Subsingleton ((⟨0, ![]⟩ : Shape).Idx) := ⟨fun a b => (ValueIdx.eq_ix0 a).trans (ValueIdx.eq_ix0 b).symm⟩

/-- A word that is at least 0 and below 25, read signed, is below 25 read unsigned. -/
theorem lt_of_cmp {x : BitVec 32} (h0 : IntOp.cmpi .sge x 0#32 = 1#1) (h1 : IntOp.cmpi .slt x 25#32 = 1#1) : x.toNat < 25 := by
  have a := IntOp.cmpi_sge.1 h0
  have b := IntOp.cmpi_slt.1 h1
  have e0 : (0#32 : BitVec 32).toInt = 0 := by decide
  have e1 : (25#32 : BitVec 32).toInt = 25 := by decide
  rw [e0] at a; rw [e1] at b
  have := x.isLt
  rw [BitVec.toInt_eq_toNat_cond] at a b
  split_ifs at a b <;> omega

variable {F : FTy → Type} [FloatOps F]

/-- Under `in_range` every letter is below twenty-five. -/
theorem letters [Cert.Pre_in_range.Facts] (a : IVec Cert.Pre_in_range.S16x2048x64 32) (w : FVec F Cert.Pre_in_range.S64 .f32)
    (h : Cert.Pre_in_range.fn (F := F) a w = fun _ => 1#1) (j : Cert.Pre_in_range.S16x2048x64.Idx) : (a j).toNat < 25 := by
  have e := Host.reduce_andi_all _ _ _ _ _ (congrFun h ValueIdx.ix0) j
  obtain ⟨e0, e1⟩ := IntOp.andi_eq_one.1 e
  exact lt_of_cmp e0 e1

/-- Under `in_range_finite` every letter is below twenty-five. -/
theorem letters' [Cert.Pre_in_range_finite.Facts] (a : IVec Cert.Pre_in_range_finite.S16x2048x64 32)
    (w : FVec F Cert.Pre_in_range_finite.S64 .f32) (h : Cert.Pre_in_range_finite.fn (F := F) a w = fun _ => 1#1)
    (j : Cert.Pre_in_range_finite.S16x2048x64.Idx) : (a j).toNat < 25 := by
  have e := Host.reduce_andi_all _ _ _ _ _ (IntOp.andi_eq_one.1 (congrFun h ValueIdx.ix0)).1 j
  obtain ⟨e0, e1⟩ := IntOp.andi_eq_one.1 e
  exact lt_of_cmp e0 e1

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-- Under `in_range_finite` every weight lies strictly between the infinities. -/
theorem finite [Cert.Pre_in_range_finite.Facts] (a : IVec Cert.Pre_in_range_finite.S16x2048x64 32)
    (w : FVec Ideal Cert.Pre_in_range_finite.S64 .f32) (h : Cert.Pre_in_range_finite.fn (F := Ideal) a w = fun _ => 1#1)
    (j : Cert.Pre_in_range_finite.S64.Idx) : (⊥ : EReal) < w j ∧ w j < (⊤ : EReal) := by
  have e := Host.reduce_andi_all _ _ _ _ _ (IntOp.andi_eq_one.1 (congrFun h ValueIdx.ix0)).2 j
  obtain ⟨e0, e1⟩ := IntOp.andi_eq_one.1 e
  have e0' : BitVec.ofBool (decide (Ideal.ofBits .f32 0xFF800000#32 < w j)) = 1#1 := e0
  have e1' : BitVec.ofBool (decide (w j < Ideal.ofBits .f32 0x7F800000#32)) = 1#1 := e1
  rw [ofBits_negInf] at e0'; rw [ofBits_posInf] at e1'
  constructor
  · by_contra hn; rw [decide_eq_false hn] at e0'; exact absurd e0' (by decide)
  · by_contra hn; rw [decide_eq_false hn] at e1'; exact absurd e1' (by decide)

end Cert.Proof.Pre

end
-- ==== Proof.Exact.lean ====
/-
  The kernel's values on exact numbers. Exchanging lanes four times leaves every lane with the maximum, or the sum, of all
  sixteen; so the normalised weights are the softmax of the sixty-four, and an output word is the sum of the weights of
  the letters that are its column. The weights are finite, which makes every exponential a positive number and the sum
  of them one to divide by.
-/
module

public import proofs.«01_k».proof.Proof.Model
public import Idealize.ShloMosaic.Lib.IdealHost
public import Idealize.ShloMosaic.PureOps.Ideal.Laws

@[expose] public section

noncomputable section

namespace Cert.Proof.Exact

open Idealize.ShloMosaic Cert.Proof.Model
open scoped BigOperators

/-! ## The exchanges -/

/-- Sixteen values combined in order. -/
def line {α : Type} (op : α → α → α) (f : ℕ → α) : α :=
  op (f 0) (op (f 1) (op (f 2) (op (f 3) (op (f 4) (op (f 5) (op (f 6) (op (f 7) (op (f 8) (op (f 9) (op (f 10) (op (f 11)
    (op (f 12) (op (f 13) (op (f 14) (f 15)))))))))))))))

/-- Four exchanges leave the sixteen combined in every lane. -/
theorem comb_line {α : Type} (op : α → α → α) [Std.Associative op] [Std.Commutative op] (f : ℕ → α) (l : Fin 16) :
    comb op (fun i => f i.val) l = line op f := by
  unfold line comb stage flipL
  fin_cases l <;> simp only [Nat.reduceXor, Nat.reduceMod] <;> ac_rfl

/-- Four exchanges with addition leave the sum of the sixteen in every lane. -/
theorem comb_add (f : ℕ → EReal) (l : Fin 16) : comb (fun x y : EReal => x + y) (fun i => f i.val) l = ∑ i : Fin 16, f i.val := by
  haveI : Std.Associative (fun x y : EReal => x + y) := ⟨add_assoc⟩
  haveI : Std.Commutative (fun x y : EReal => x + y) := ⟨add_comm⟩
  rw [comb_line]
  simp [line, Fin.sum_univ_succ]

/-- Four exchanges with the maximum leave in every lane the least bound of the sixteen. -/
theorem comb_max (f : ℕ → EReal) (l : Fin 16) (b : EReal) : comb (fun x y : EReal => max x y) (fun i => f i.val) l ≤ b ↔ ∀ i : Fin 16, f i.val ≤ b := by
  haveI : Std.Associative (fun x y : EReal => max x y) := ⟨max_assoc⟩
  haveI : Std.Commutative (fun x y : EReal => max x y) := ⟨max_comm⟩
  rw [comb_line]
  simp [line, Fin.forall_fin_succ]

/-- Sixteen values as a function of a number. -/
def num {α : Type} (X : Fin 16 → α) (n : ℕ) : α := X ⟨n % 16, Nat.mod_lt _ (by decide)⟩

theorem num_val {α : Type} (X : Fin 16 → α) : X = fun i => num X i.val := by
  funext i; unfold num; exact congrArg X (Fin.ext (Nat.mod_eq_of_lt i.isLt).symm)

/-! ## The softmax -/

/-- An element of sixty-four is in one of the four groups. -/
theorem cell_div (k : Fin 64) : cell ⟨k.val / 16, by omega⟩ ⟨k.val % 16, Nat.mod_lt _ (by decide)⟩ = k :=
  Fin.ext (by show 16 * (k.val / 16) + k.val % 16 = k.val; omega)

/-- A statement of all sixty-four, group by group. -/
theorem forall_cell (P : Fin 64 → Prop) : (∀ l, ((P (cell 0 l) ∧ P (cell 1 l)) ∧ (P (cell 2 l) ∧ P (cell 3 l)))) ↔ ∀ k, P k := by
  constructor
  · intro h k
    have hk := h ⟨k.val % 16, Nat.mod_lt _ (by decide)⟩
    have e : ∀ g : Fin 4, k.val / 16 = g.val → cell g ⟨k.val % 16, Nat.mod_lt _ (by decide)⟩ = k := by
      intro g hg
      have : g = ⟨k.val / 16, by omega⟩ := Fin.ext hg.symm
      rw [this]; exact cell_div k
    have hc : k.val / 16 = 0 ∨ k.val / 16 = 1 ∨ k.val / 16 = 2 ∨ k.val / 16 = 3 := by omega
    rcases hc with c | c | c | c
    · rw [← e 0 c]; exact hk.1.1
    · rw [← e 1 c]; exact hk.1.2
    · rw [← e 2 c]; exact hk.2.1
    · rw [← e 3 c]; exact hk.2.2
  · intro h l; exact ⟨⟨h _, h _⟩, h _, h _⟩

/-- A sum over all sixty-four, group by group. -/
theorem sum_cell (f : Fin 64 → EReal) : ∑ l, (f (cell 0 l) + f (cell 1 l) + f (cell 2 l) + f (cell 3 l)) = ∑ k, f k := by
  have e : ∑ k, f k = ∑ p : Fin 4 × Fin 16, f (cell p.1 p.2) :=
    (Fintype.sum_equiv (finProdFinEquiv : Fin 4 × Fin 16 ≃ Fin 64) _ _ fun p => congrArg f (Fin.ext (by
      show 16 * p.1.val + p.2.val = p.2.val + 16 * p.1.val; omega))).symm
  rw [e, Fintype.sum_prod_type, Fin.sum_univ_four, ← Finset.sum_add_distrib, ← Finset.sum_add_distrib, ← Finset.sum_add_distrib]

variable (w : Fin 64 → EReal)

/-- The greatest of sixty-four weights. -/
def top64 : EReal := Finset.univ.sup w

/-- The exponential of a weight less the greatest. -/
def ex (k : Fin 64) : EReal := Ideal.exp (w k - top64 w)

/-- The softmax of sixty-four weights. -/
def soft (k : Fin 64) : EReal := Ideal.div (ex w k) (∑ i, ex w i)

theorem mxV_eq (l : Fin 16) : mxV (F := Ideal) w l = top64 w := by
  refine eq_of_forall_ge_iff fun b => ?_
  have h := comb_max (num fun l => max (max (w (cell 0 l)) (w (cell 1 l))) (max (w (cell 2 l)) (w (cell 3 l)))) l b
  rw [← num_val] at h
  unfold top64
  rw [Finset.sup_le_iff]
  refine Iff.trans (b := comb (fun x y : EReal => max x y) (fun l => max (max (w (cell 0 l)) (w (cell 1 l))) (max (w (cell 2 l)) (w (cell 3 l)))) l ≤ b) Iff.rfl (h.trans ?_)
  have hv : ∀ i : Fin 16, num (fun l => max (max (w (cell 0 l)) (w (cell 1 l))) (max (w (cell 2 l)) (w (cell 3 l)))) i.val
      = max (max (w (cell 0 i)) (w (cell 1 i))) (max (w (cell 2 i)) (w (cell 3 i))) := fun i => (congrFun (num_val _) i).symm
  simp only [hv, max_le_iff, Finset.mem_univ, true_implies]
  exact forall_cell fun k => w k ≤ b

theorem eV_eq (g : Fin 4) (l : Fin 16) : eV (F := Ideal) w g l = ex w (cell g l) := by
  show Ideal.exp (w (cell g l) - mxV (F := Ideal) w l) = _
  rw [mxV_eq]; rfl

theorem totV_eq (l : Fin 16) : totV (F := Ideal) w l = ∑ i, ex w i := by
  have h := comb_add (num fun l => ex w (cell 0 l) + ex w (cell 1 l) + ex w (cell 2 l) + ex w (cell 3 l)) l
  rw [← num_val] at h
  rw [sum_cell (ex w)] at h
  rw [← h]
  have he : (fun l => eV (F := Ideal) w 0 l + eV (F := Ideal) w 1 l + eV (F := Ideal) w 2 l + eV (F := Ideal) w 3 l : Fin 16 → EReal)
      = fun l => ex w (cell 0 l) + ex w (cell 1 l) + ex w (cell 2 l) + ex w (cell 3 l) := by
    funext l; rw [eV_eq, eV_eq, eV_eq, eV_eq]
  rw [← he]
  rfl

/-- No exponential is negative. -/
theorem ex_nonneg (k : Fin 64) : 0 ≤ ex w k := by
  unfold ex
  induction w k - top64 w using EReal.rec with
  | bot => exact le_refl _
  | top => exact le_top
  | coe r => exact EReal.coe_nonneg.2 (Real.exp_pos r).le

/-- With finite weights the sum of the exponentials is positive. -/
theorem sum_ne_zero (h : ∀ k, (⊥ : EReal) < w k ∧ w k < (⊤ : EReal)) : ∑ i, ex w i ≠ 0 := by
  have ht : top64 w < ⊤ := (Finset.sup_lt_iff (bot_lt_top)).2 fun k _ => (h k).2
  have hb : ⊥ < top64 w := lt_of_lt_of_le (h 0).1 (Finset.le_sup (Finset.mem_univ 0))
  have hp : 0 < ex w 0 := by
    unfold ex
    obtain ⟨a, ha⟩ : ∃ a : ℝ, w 0 = a := ⟨(w 0).toReal, (EReal.coe_toReal (h 0).2.ne (h 0).1.ne').symm⟩
    obtain ⟨b, hb'⟩ : ∃ b : ℝ, top64 w = b := ⟨(top64 w).toReal, (EReal.coe_toReal ht.ne hb.ne').symm⟩
    rw [ha, hb', ← EReal.coe_sub]
    exact EReal.coe_pos.2 (Real.exp_pos _)
  exact (lt_of_lt_of_le hp (Finset.single_le_sum (fun i _ => ex_nonneg w i) (Finset.mem_univ 0))).ne'

/-- The kernel's normalised weights are the softmax. -/
theorem nw_eq (h : ∀ k, (⊥ : EReal) < w k ∧ w k < (⊤ : EReal)) (k : Fin 64) : nw (F := Ideal) w k.val = soft w k := by
  have hk : k.val / 16 % 4 = k.val / 16 := by omega
  have e : cell ⟨k.val / 16 % 4, Nat.mod_lt _ (by decide)⟩ ⟨k.val % 16, Nat.mod_lt _ (by decide)⟩ = k :=
    Fin.ext (by show 16 * (k.val / 16 % 4) + k.val % 16 = k.val; omega)
  unfold nw nwC
  rw [eV_eq, e]
  show ex w k * Ideal.div (Ideal.ofBits .f32 0x3F800000#32) (totV (F := Ideal) w _) = _
  rw [totV_eq, Ideal.ofBits_one_f32, Ideal.mul_one_div (sum_ne_zero w h)]
  rfl

/-! ## The accumulation -/

/-- An output word is the sum of the weights of the letters that are its column. -/
theorem accum_eq (q : ℕ → EReal) (a : ℕ → BitVec 32) (c n : ℕ) :
    accum (F := Ideal) q a c n = ∑ s ∈ Finset.range n, if (a s).toNat = c then q s else 0 := by
  induction n with
  | zero => show Ideal.ofBits .f32 0x00000000#32 = _; rw [Ideal.ofBits_zero_f32]; rfl
  | succ n ih =>
    rw [Finset.sum_range_succ, ← ih]
    show (if (a n).toNat = c then accum (F := Ideal) q a c n + q n else accum (F := Ideal) q a c n) = _
    split_ifs with h
    · rfl
    · exact (add_zero _).symm

end Cert.Proof.Exact

end
-- ==== Proof.Value.lean ====
/-
  The reference's value, element by element: at position `p` and column `c` the sum, over the sixty-four letters of row
  `p`, of the softmax weight of the letters that are `c`. It is the kernel's value, whose result vector holds position
  `p`, column `c` at word `25 p + c` and whose letter vector holds letter `s` of row `p` at word `64 p + s`.
-/
module

public import proofs.«01_k».proof.Proof.Exact
public import proofs.«01_k».proof.Proof.Pre
public import proofs.«01_k».proof.Proof.Gen.ReferenceIdeal.Run
public import Idealize.ShloMosaic.Lib.Pointwise
public import Idealize.ShloMosaic.Lib.Pipeline.Value
public import Idealize.ShloMosaic.Lib.ValueIdxRank1

@[expose] public section

noncomputable section

namespace Cert.Proof.Value

open Cert.ReferenceIdeal Cert.ReferenceIdeal.Gen Idealize.ShloMosaic Cert.Proof.Model Cert.Proof.Exact
open Idealize.ShloMosaic.ValueIdx (broadcastInDim_scalar_apply hostDivf_apply hostReduceAdd_apply eq_zero_of_ne_one idxEquiv1)
open scoped BigOperators

/-! ## The reference's terms -/

/-- The greatest weight, in every element. -/
def rMax (W : FVec Ideal S64 .f32) : FVec Ideal S64 .f32 :=
  broadcastInDim S64 ![0] bcast_S1_S64_0 (broadcastInDim S1 ![] bcast_S_S1 (maximumf (constant S_ .f32 0xFF800000#32)
    (Host.reduce FloatOps.maximumf W (constant S_ .f32 0xFF800000#32) reducesTo_S64_S_d0 h_S_)))

/-- The exponentials. -/
def rExp (W : FVec Ideal S64 .f32) : FVec Ideal S64 .f32 := Host.exp (subf W (rMax W))

/-- The softmax. -/
def rSoft (W : FVec Ideal S64 .f32) : FVec Ideal S64 .f32 :=
  Host.divf (rExp W) (broadcastInDim S64 ![0] bcast_S1_S64_0 (broadcastInDim S1 ![] bcast_S_S1
    (Host.reduceAdd (rExp W) (constant S_ .f32 0x00000000#32) reducesTo_S64_S_d0 h_S_)))

/-- One where a letter is a column, zero elsewhere. -/
def rHot (A : IVec S16x2048x64 32) : FVec Ideal S32768x64x25 .f32 :=
  uitofp .f32 (cmpi .eq (broadcastInDim S32768x64x25 ![0, 1, 2] bcast_S32768x64x1_S32768x64x25_0_1_2
      (broadcastInDim S32768x64x1 ![0, 1] bcast_S32768x64_S32768x64x1_0_1 (shapeCast _ A shapeCasts_S16x2048x64_S32768x64)))
    (broadcastInDim S32768x64x25 ![0, 1, 2] bcast_S1x1x25_S32768x64x25_0_1_2 (iotaInDim S1x1x25 32 2)))

/-- The result. -/
def rOut (A : IVec S16x2048x64 32) (W : FVec Ideal S64 .f32) : FVec Ideal S16x2048x25 .f32 :=
  shapeCast _ (Host.reduceAdd (mulf (rHot A) (broadcastInDim S32768x64x25 ![0, 1, 2] bcast_S1x64x1_S32768x64x25_0_1_2
      (shapeCast _ (rSoft W) shapeCasts_S64_S1x64x1)))
    (constant S_ .f32 0x00000000#32) reducesTo_S32768x64x25_S32768x25_d1 h_S_) shapeCasts_S32768x25_S16x2048x25

/-! ## Read at an index -/

/-- A scalar spread over sixty-four elements. -/
theorem spread (x : FVec Ideal S_ .f32) (j : S64.Idx) :
    broadcastInDim S64 ![0] bcast_S1_S64_0 (broadcastInDim S1 ![] bcast_S_S1 x) j = x ix0 := by
  rw [broadcastInDim_apply _ _ _ j (ix1 0) (by intro a; match a with | ⟨0, _⟩ => rfl)]
  exact broadcastInDim_scalar_apply _ _ _

/-- The number of an element of sixty-four. -/
def co (j : S64.Idx) : Fin 64 := ⟨(j 0).val, (j 0).isLt⟩

theorem wts_apply (W : FVec Ideal S64 .f32) (j : S64.Idx) : wts (F := Ideal) W (co j) = W j := by
  unfold wts; exact congrArg W (ext1 rfl)

theorem rMax_apply (W : FVec Ideal S64 .f32) (j : S64.Idx) : rMax W j = top64 (wts (F := Ideal) W) := by
  unfold rMax
  rw [spread]
  show max (Ideal.ofBits .f32 0xFF800000#32) (Host.reduce FloatOps.maximumf W (constant S_ .f32 0xFF800000#32) reducesTo_S64_S_d0 h_S_ ix0) = _
  rw [Pre.ofBits_negInf, max_eq_right bot_le]
  have e := Host.reduce_eq_fold (FloatOps.maximumf (F := Ideal) (φ := .f32)) W (constant S_ .f32 0xFF800000#32) reducesTo_S64_S_d0 h_S_ ix0
  rw [e, Finset.filter_true_of_mem (fun i _ => Subsingleton.elim _ _)]
  have e' : Finset.univ.fold (FloatOps.maximumf (F := Ideal) (φ := .f32))
      ((constant S_ .f32 0xFF800000#32 : FVec Ideal S_ .f32) (Shape.Idx.first h_S_)) W = (Finset.univ.sup W : EReal) := by
    show Finset.univ.fold _ (Ideal.ofBits .f32 0xFF800000#32) W = _
    rw [Pre.ofBits_negInf]; rfl
  refine e'.trans (eq_of_forall_ge_iff fun b => ?_)
  unfold top64
  rw [Finset.sup_le_iff, Finset.sup_le_iff]
  exact ⟨fun h k _ => h (mk1 k.val k.isLt) (Finset.mem_univ _), fun h i _ => wts_apply W i ▸ h (co i) (Finset.mem_univ _)⟩

theorem rExp_apply (W : FVec Ideal S64 .f32) (j : S64.Idx) : rExp W j = ex (wts (F := Ideal) W) (co j) := by
  show Ideal.exp (W j - rMax W j) = _
  rw [rMax_apply, ← wts_apply W]; rfl

theorem rSoft_apply (W : FVec Ideal S64 .f32) (j : S64.Idx) : rSoft W j = soft (wts (F := Ideal) W) (co j) := by
  unfold rSoft soft
  rw [hostDivf_apply, rExp_apply, spread, hostReduceAdd_apply, Ideal.hostReduceAdd_total _ (fun b => b.elim0)]
  congr 1
  show Ideal.ofBits .f32 0x00000000#32 + _ = _
  rw [Ideal.ofBits_zero_f32, zero_add]
  simp only [rExp_apply]
  exact Fintype.sum_equiv idxEquiv1 _ _ fun i => rfl

theorem rHot_apply (A : IVec S16x2048x64 32) (a : Fin 16) (b : Fin 2048) (p : Fin 32768) (hp : p.val = 2048 * a.val + b.val) (k : Fin 64) (c : Fin 25) :
    rHot A (ix3 p k c) = if (A (ix3 a b k)).toNat = c.val then 1 else 0 := by
  have e0 : broadcastInDim S32768x64x25 ![0, 1, 2] bcast_S32768x64x1_S32768x64x25_0_1_2
      (broadcastInDim S32768x64x1 ![0, 1] bcast_S32768x64_S32768x64x1_0_1 (shapeCast _ A shapeCasts_S16x2048x64_S32768x64)) (ix3 p k c)
      = A (ix3 a b k) := by
    rw [broadcastInDim_apply _ _ _ _ (ix3 p k 0) (by intro x; match x with | ⟨0, _⟩ => rfl | ⟨1, _⟩ => rfl | ⟨2, _⟩ => rfl),
      broadcastInDim_apply _ _ _ _ (ix2 p k) (by intro x; match x with | ⟨0, _⟩ => rfl | ⟨1, _⟩ => rfl)]
    refine shapeCast_apply _ _ _ _ ?_
    rw [Shape.rowMajor_val_three, Shape.rowMajor_val_two]
    show (a.val * 2048 + b.val) * 64 + k.val = p.val * 64 + k.val
    omega
  have e1 : broadcastInDim S32768x64x25 ![0, 1, 2] bcast_S1x1x25_S32768x64x25_0_1_2 (iotaInDim S1x1x25 32 2) (ix3 p k c)
      = BitVec.ofNat 32 c.val := by
    rw [broadcastInDim_apply _ _ _ _ (ix3 0 0 c) (by intro x; match x with | ⟨0, _⟩ => rfl | ⟨1, _⟩ => rfl | ⟨2, _⟩ => rfl)]
    rfl
  have hc := c.isLt
  show FloatOps.uitofp (F := Ideal) .f32 (IntOp.cmpi .eq _ _) = _
  rw [e0, e1]
  by_cases h : (A (ix3 a b k)).toNat = c.val
  · have : A (ix3 a b k) = BitVec.ofNat 32 c.val := by
      apply BitVec.eq_of_toNat_eq; rw [h, BitVec.toNat_ofNat]; omega
    rw [if_pos h, IntOp.cmpi_eq.2 this]
    show (((1#1 : BitVec 1).toNat : ℝ) : EReal) = 1
    simp
  · have : IntOp.cmpi .eq (A (ix3 a b k)) (BitVec.ofNat 32 c.val) = 0#1 := by
      refine eq_zero_of_ne_one fun e => h ?_
      rw [IntOp.cmpi_eq.1 e, BitVec.toNat_ofNat]; omega
    rw [if_neg h, this]
    show (((0#1 : BitVec 1).toNat : ℝ) : EReal) = 0
    simp

theorem rOut_apply (A : IVec S16x2048x64 32) (W : FVec Ideal S64 .f32) (j : S16x2048x25.Idx) :
    rOut A W j = ∑ k : Fin 64, if (A (ix3 (j 0) (j 1) k)).toNat = (j 2).val then soft (wts (F := Ideal) W) k else 0 := by
  have h0 : (j 0).val < 16 := (j 0).isLt
  have h1 : (j 1).val < 2048 := (j 1).isLt
  have h2 : (j 2).val < 25 := (j 2).isLt
  unfold rOut
  rw [shapeCast_apply _ _ j (ix2 (⟨2048 * (j 0).val + (j 1).val, by omega⟩ : Fin 32768) (⟨(j 2).val, h2⟩ : Fin 25)) (by
    rw [Shape.rowMajor_val_three, Shape.rowMajor_val_two]
    show (2048 * (j 0).val + (j 1).val) * 25 + (j 2).val = ((j 0).val * 2048 + (j 1).val) * 25 + (j 2).val
    omega)]
  rw [hostReduceAdd_apply, Ideal.hostReduceAdd_r3_a1]
  show Ideal.ofBits .f32 0x00000000#32 + _ = _
  rw [Ideal.ofBits_zero_f32, zero_add]
  refine Finset.sum_congr rfl fun k _ => ?_
  have e : broadcastInDim S32768x64x25 ![0, 1, 2] bcast_S1x64x1_S32768x64x25_0_1_2 (shapeCast _ (rSoft W) shapeCasts_S64_S1x64x1)
      (ix3 (⟨2048 * (j 0).val + (j 1).val, by omega⟩ : Fin 32768) k (⟨(j 2).val, h2⟩ : Fin 25)) = soft (wts (F := Ideal) W) k := by
    rw [broadcastInDim_apply _ _ _ _ (ix3 0 k 0) (by intro x; match x with | ⟨0, _⟩ => rfl | ⟨1, _⟩ => rfl | ⟨2, _⟩ => rfl),
      shapeCast_apply _ _ _ (ix1 k) (by rw [Shape.rowMajor_val_one, Shape.rowMajor_val_three]; show k.val = (0 * 64 + k.val) * 1 + 0; omega)]
    exact rSoft_apply W (ix1 k)
  refine (congrArg₂ (fun x y : EReal => x * y) (rHot_apply A ⟨(j 0).val, h0⟩ ⟨(j 1).val, h1⟩
    (⟨2048 * (j 0).val + (j 1).val, by omega⟩ : Fin 32768) rfl k ⟨(j 2).val, h2⟩) e).trans ?_
  show (if (A (ix3 (j 0) (j 1) k)).toNat = (j 2).val then (1 : EReal) else 0) * _ = _
  split_ifs
  · exact one_mul _
  · exact zero_mul _

/-! ## The kernel's value is the reference's -/

theorem out_eq (A : IVec S16x2048x64 32) (W : FVec Ideal S64 .f32) (hA : S16x2048x64.ShapeCasts (Vx 2097152))
    (hO : (Vx 819200).ShapeCasts S16x2048x25) (hw : ∀ j, (⊥ : EReal) < W j ∧ W j < (⊤ : EReal)) :
    shapeCast S16x2048x25 (outV (F := Ideal) (nw (wts W)) (shapeCast (Vx 2097152) A hA)) hO = rOut A W := by
  funext j
  have h0 : (j 0).val < 16 := (j 0).isLt
  have h1 : (j 1).val < 2048 := (j 1).isLt
  have h2 : (j 2).val < 25 := (j 2).isLt
  have hl : ((j 0).val * 2048 + (j 1).val) * 25 + (j 2).val < 819200 := by omega
  rw [rOut_apply, shapeCast_apply _ _ j (mk1 _ hl) (by
    rw [Shape.rowMajor_val_one, Shape.rowMajor_val_three]; rfl)]
  unfold outV
  rw [accum_eq, Finset.sum_range, mk1_val]
  refine Finset.sum_congr rfl fun k _ => ?_
  have hk := k.isLt
  rw [show (((j 0).val * 2048 + (j 1).val) * 25 + (j 2).val) / 25 = (j 0).val * 2048 + (j 1).val by omega,
    show (((j 0).val * 2048 + (j 1).val) * 25 + (j 2).val) % 25 = (j 2).val by omega,
    at0_of_lt _ (show ((j 0).val * 2048 + (j 1).val) * 64 + k.val < 2097152 by omega), nw_eq (wts (F := Ideal) W) (fun k => hw _)]
  rw [shapeCast_apply A hA _ (ix3 (j 0) (j 1) k) (by
    rw [Shape.rowMajor_val_one, Shape.rowMajor_val_three]; rfl)]

end Cert.Proof.Value

end
-- ==== Proof.lean ====
/-
  The five claims. The program's frame, at its own floats and exactly, is its launch (Kernel/Launch.lean,
  KernelIdeal/Launch.lean) read at the arguments and the counters; the reference's is its run, which uses no counter.
  The idealization replaced no operation. The kernel's exact result is the reference's (Value.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Kernel.Launch
public import proofs.«01_k».proof.Proof.KernelIdeal.Launch
public import proofs.«01_k».proof.Proof.Pre
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-! ## The preconditions as facts about memory -/

theorem inRange_P [Cert.Pre_in_range.Facts] (m : (ℓ : Loc Cert.Kernel.nD Cert.Kernel.τ Cert.Kernel.sig) → Buf (Elt Bits) ℓ)
    (h : Cert.Pre_Kernel m) : Kernel.InRange m := fun d j => Pre.letters _ _ (h d) j

theorem inRange_PI [Cert.Pre_in_range.Facts] (m : (ℓ : Loc Cert.KernelIdeal.nD Cert.KernelIdeal.τ Cert.KernelIdeal.sig) → Buf (Elt Ideal) ℓ)
    (h : Cert.Pre_KernelIdeal m) : KernelIdeal.InRange m := fun d j => Pre.letters _ _ (h d) j

theorem inRange_PI' [Cert.Pre_in_range_finite.Facts]
    (m : (ℓ : Loc Cert.KernelIdeal.nD Cert.KernelIdeal.τ Cert.KernelIdeal.sig) → Buf (Elt Ideal) ℓ)
    (h : Cert.Pre_KernelIdeal_in_range_finite m) : KernelIdeal.InRange m := fun d j => Pre.letters' _ _ (h d) j

/-! ## The frames -/

theorem frame_P : Cert.quiescent_Kernel := fun m g h =>
  (θ_run Cert.Kernel.defs _ _).mono (fun _ q => ⟨fun c => ⟨(q.1 c).1, (q.1 c).2.1⟩, q.2⟩) (Kernel.run_main (F := Bits) m g (inRange_P m h))

theorem frame_PI : Cert.quiescent_KernelIdeal := fun m g h =>
  (θ_run Cert.KernelIdeal.defs _ _).mono (fun _ q => ⟨fun c => ⟨(q.1 c).1, (q.1 c).2.1⟩, q.2⟩)
    (KernelIdeal.run_main (F := Ideal) m g (inRange_PI m h))

theorem frame_PI' : Cert.quiescent_KernelIdeal_pre_in_range_finite := fun m g h =>
  (θ_run Cert.KernelIdeal.defs _ _).mono (fun _ q => ⟨fun c => ⟨(q.1 c).1, (q.1 c).2.1⟩, q.2⟩)
    (KernelIdeal.run_main (F := Ideal) m g (inRange_PI' m h))

theorem frame_RI : Cert.quiescent_ReferenceIdeal := fun m g _ =>
  (θ_run Cert.ReferenceIdeal.defs _ _).mono
    (fun r q => ⟨fun c => (q c).2, Idealize.ShloMosaic.sem_eq_zero_of_no_sems (by decide) r.2⟩)
    (Cert.ReferenceIdeal.Value.run (F := Ideal) m g)

theorem frame_RI' : Cert.quiescent_ReferenceIdeal_pre_in_range_finite := fun m g _ =>
  (θ_run Cert.ReferenceIdeal.defs _ _).mono
    (fun r q => ⟨fun c => (q c).2, Idealize.ShloMosaic.sem_eq_zero_of_no_sems (by decide) r.2⟩)
    (Cert.ReferenceIdeal.Value.run (F := Ideal) m g)

/-! ## The result -/

theorem algebraic : Cert.algebraic_KernelIdeal_ReferenceIdeal_pre_in_range_finite := by
  intro m g m' g' h agree
  refine ⟨fun c => KernelIdeal.Ret m c, (θ_run Cert.KernelIdeal.defs _ _).mono
    (fun _ q c => ⟨(q.1 c).2.2, (q.1 c).1, (q.1 c).2.1⟩) (KernelIdeal.run_main (F := Ideal) m g (inRange_PI' m h)), ?_⟩
  refine (θ_run Cert.ReferenceIdeal.defs _ _).mono (fun _ q c => ⟨(q c).1.trans ?_, (q c).2⟩)
    (Cert.ReferenceIdeal.Value.run (F := Ideal) m' g')
  obtain ⟨e0, e1⟩ := agree c
  refine Eq.trans ?_ (Value.out_eq (m (KernelIdeal.xLoc c)) (m (KernelIdeal.wLoc c)) Cert.KernelIdeal.Gen.shapeCasts_S16x2048x64_S2097152
    Cert.KernelIdeal.Gen.shapeCasts_S819200_S16x2048x25 (Pre.finite _ _ (h c))).symm
  rw [e0, e1]
  rfl

theorem claim : Cert.Claim := ⟨Cert.Kernel.Gen.facts, Cert.KernelIdeal.Gen.facts, Cert.ReferenceIdeal.Gen.facts,
  Cert.Pre_in_range.Gen.facts, Cert.Pre_in_range_finite.Gen.facts,
  frame_P, frame_PI, frame_PI', frame_RI, frame_RI', trivial, algebraic⟩

end Cert.Proof

end
